-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counted [hPre_counted : Cert.Pre_counted.Facts] (m : (ℓ : Loc Cert.KernelIdeal.nD Cert.KernelIdeal.τ Cert.KernelIdeal.sig) → Buf (Elt Ideal) ℓ) : Prop :=
  ∀ c : Dev Cert.KernelIdeal.nD,
    (Cert.Pre_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counted [hPre_counted : Cert.Pre_counted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_counted [hKernelIdeal : Cert.KernelIdeal.Facts] [hPre_counted : Cert.Pre_counted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_counted [hReferenceIdeal : Cert.ReferenceIdeal.Facts] [hPre_counted : Cert.Pre_counted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv127" .f32 0x3C010204#32 ((127⁻¹ : ℝ) : EReal)
  ∧ IdealRules.named_const.Statement Cert.KernelIdeal.κ "inv_qscale" .f32 0x35535DD3#32 ((1270000⁻¹ : ℝ) : EReal)

def algebraic_KernelIdeal_ReferenceIdeal_pre_counted [hKernelIdeal : Cert.KernelIdeal.Facts] [hReferenceIdeal : Cert.ReferenceIdeal.Facts] [hPre_counted : Cert.Pre_counted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_counted : Cert.Pre_counted.Facts),
    quiescent_Kernel (hKernel := hKernel)
    ∧ quiescent_KernelIdeal (hKernelIdeal := hKernelIdeal)
    ∧ quiescent_KernelIdeal_pre_counted (hKernelIdeal := hKernelIdeal) (hPre_counted := hPre_counted)
    ∧ quiescent_ReferenceIdeal (hReferenceIdeal := hReferenceIdeal)
    ∧ quiescent_ReferenceIdeal_pre_counted (hReferenceIdeal := hReferenceIdeal) (hPre_counted := hPre_counted)
    ∧ preserves_Kernel_KernelIdeal
    ∧ algebraic_KernelIdeal_ReferenceIdeal_pre_counted (hKernelIdeal := hKernelIdeal) (hReferenceIdeal := hReferenceIdeal) (hPre_counted := hPre_counted)
-- ==== Pre_counted.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10000 : Shape := ⟨1, ![10000]⟩
abbrev S1x10000 : Shape := ⟨2, ![1, 10000]⟩
abbrev S1 : Shape := ⟨1, ![1]⟩
abbrev S1x128 : Shape := ⟨2, ![1, 128]⟩
abbrev S_ : Shape := ⟨0, ![]⟩

class Facts : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S10000x10000 : S_.BroadcastsInDim S10000x10000 (![] : Fin 0 → Fin S10000x10000.rank)
  reducesTo_S10000x128_S128_d0 : S10000x128.ReducesTo [0] S128
  h_S_ : 0 < S_.numel
  bcast_S_S128 : S_.BroadcastsInDim S128 (![] : Fin 0 → Fin S128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def fn_relu {F : FTy → Type} [FloatOps F] (arg0 : FVec F S10000x128 .f32) : FVec F S10000x128 .f32 :=
  let cst : FVec F S_ .f32 := constant S_ .f32 0x00000000#32
  let v0 : FVec F S10000x128 .f32 := broadcastInDim S10000x128 ![] bcast_S_S10000x128 cst
  let v1 : FVec F S10000x128 .f32 := maximumf arg0 v0
  v1

def fn_clip {F : FTy → Type} [FloatOps F] (arg0 : IVec S10000x10000 32) (arg1 : IVec S_ 32) (arg2 : IVec S_ 32) : IVec S10000x10000 32 :=
  let v0 : IVec S_ 32 := id arg1
  let v1 : IVec S10000x10000 32 := broadcastInDim S10000x10000 ![] bcast_S_S10000x10000 v0
  let v2 : IVec S10000x10000 32 := maxsi v1 arg0
  let v3 : IVec S_ 32 := id arg2
  let v4 : IVec S10000x10000 32 := broadcastInDim S10000x10000 ![] bcast_S_S10000x10000 v3
  let v5 : IVec S10000x10000 32 := minsi v4 v2
  v5

def fn_where {F : FTy → Type} [FloatOps F] (arg0 : IVec S10000x128 1) (arg1 : FVec F S_ .f32) (arg2 : FVec F S_ .f32) : FVec F S10000x128 .f32 :=
  let v0 : FVec F S10000x128 .f32 := broadcastInDim S10000x128 ![] bcast_S_S10000x128 arg1
  let v1 : FVec F S10000x128 .f32 := broadcastInDim S10000x128 ![] bcast_S_S10000x128 arg2
  let v2 : FVec F S10000x128 .f32 := select arg0 v0 v1
  v2

def fn_clip_0 {F : FTy → Type} [FloatOps F] (arg0 : IVec S10000x128 32) (arg1 : IVec S_ 32) (arg2 : IVec S_ 32) : IVec S10000x128 32 :=
  let v0 : IVec S_ 32 := id arg1
  let v1 : IVec S10000x128 32 := broadcastInDim S10000x128 ![] bcast_S_S10000x128 v0
  let v2 : IVec S10000x128 32 := maxsi v1 arg0
  let v3 : IVec S_ 32 := id arg2
  let v4 : IVec S10000x128 32 := broadcastInDim S10000x128 ![] bcast_S_S10000x128 v3
  let v5 : IVec S10000x128 32 := minsi v4 v2
  v5

def fn_part1 {F : FTy → Type} [FloatOps F] (main_v6 : FVec F S10000x128 .f32) (main_v11 : FVec F S10000x10000 .f32) (main_v17 : FVec F S128 .f32) : IVec S10000x128 1 :=
  let main_v18 : FVec F S1x128 .f32 := broadcastInDim S1x128 ![1] bcast_S128_S1x128_1 main_v17
  let main_v19 : FVec F S10000x128 .f32 := broadcastInDim S10000x128 ![0, 1] bcast_S1x128_S10000x128_0_1 main_v18
  let main_v20 : FVec F S10000x128 .f32 := Host.divf main_v6 main_v19
  let main_cst_4 : FVec F S_ .f32 := constant S_ .f32 0x00000000#32
  let main_v21 : FVec F S10000x128 .f32 := broadcastInDim S10000x128 ![] bcast_S_S10000x128 main_cst_4
  let main_v22 : IVec S10000x128 1 := cmpf .oge main_v20 main_v21
  let main_cst_5 : FVec F S_ .f32 := constant S_ .f32 0x3F000000#32
  let main_cst_6 : FVec F S_ .f32 := constant S_ .f32 0xBF000000#32
  let main_v23 : FVec F S10000x128 .f32 := fn_where (F := F) main_v22 main_cst_5 main_cst_6
  let main_v24 : FVec F S10000x128 .f32 := id main_v23
  let main_v25 : FVec F S10000x128 .f32 := addf main_v20 main_v24
  let main_v26 : IVec S10000x128 32 := fptosi 32 main_v25
  let main_c_7 : IVec S_ 32 := constantI S_ 32 4294967168#32
  let main_c_8 : IVec S_ 32 := constantI S_ 32 127#32
  let main_v27 : IVec S10000x128 32 := fn_clip_0 (F := F) main_v26 main_c_7 main_c_8
  let main_v28 : FVec F S10000x128 .f32 := sitofp .f32 main_v27
  let main_v29 : FVec F S10000x10000 .f32 := Host.absf main_v11
  let main_v30 : FVec F S10000x128 .f32 := Host.absf main_v28
  let main_v31 : FVec F S10000x128 .f32 := (fun l r => Host.dotGeneral dot_S10000x10000_S10000x128_S10000x128_1_0_0_1_n_n none l r) main_v29 main_v30
  let main_cst_9 : FVec F S_ .f32 := constant S_ .f32 0x4C800000#32
  let main_v32 : FVec F S10000x128 .f32 := broadcastInDim S10000x128 ![] bcast_S_S10000x128 main_cst_9
  let main_v33 : IVec S10000x128 1 := cmpf .ole main_v31 main_v32
  main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S10000 .f32) (main_arg7 : FVec F S1x10000 .f32) (main_arg8 : FVec F S1 .f32) : IVec S10000x128 1 :=
  let main_v0 : FVec F S10000x128 .f32 := (fun l r => Host.dotGeneral dot_S10000x128_S128x128_S10000x128_1_0_0_1_n_n none l r) main_arg0 main_arg2
  let main_v1 : FVec F S10000x128 .f32 := (fun l r => Host.dotGeneral dot_S10000x10000_S10000x128_S10000x128_1_0_0_1_n_n none l r) main_arg1 main_v0
  let main_v2 : FVec F S1x128 .f32 := broadcastInDim S1x128 ![1] bcast_S128_S1x128_1 main_arg3
  let main_v3 : FVec F S10000x128 .f32 := broadcastInDim S10000x128 ![0, 1] bcast_S1x128_S10000x128_0_1 main_v2
  let main_v4 : FVec F S10000x128 .f32 := addf main_v1 main_v3
  let main_v5 : FVec F S10000x128 .f32 := fn_relu (F := F) main_v4
  let main_v6 : FVec F S10000x128 .f32 := (fun l r => Host.dotGeneral dot_S10000x128_S128x128_S10000x128_1_0_0_1_n_n none l r) main_v5 main_arg4
  let main_cst : FVec F S_ .f32 := constant S_ .f32 0x499B0780#32
  let main_v7 : FVec F S10000x10000 .f32 := broadcastInDim S10000x10000 ![] bcast_S_S10000x10000 main_cst
  let main_v8 : FVec F S10000x10000 .f32 := mulf main_arg1 main_v7
  let main_v9 : IVec S10000x10000 32 := fptosi 32 main_v8
  let main_c : IVec S_ 32 := constantI S_ 32 4294967168#32
  let main_c_0 : IVec S_ 32 := constantI S_ 32 127#32
  let main_v10 : IVec S10000x10000 32 := fn_clip (F := F) main_v9 main_c main_c_0
  let main_v11 : FVec F S10000x10000 .f32 := sitofp .f32 main_v10
  let main_v12 : FVec F S10000x128 .f32 := Host.absf main_v6
  let main_cst_1 : FVec F S_ .f32 := constant S_ .f32 0xFF800000#32
  let main_v13 : FVec F S128 .f32 := (fun x v => Host.reduce FloatOps.maximumf x v reducesTo_S10000x128_S128_d0 h_S_) main_v12 main_cst_1
  let main_cst_2 : FVec F S_ .f32 := constant S_ .f32 0x0DA24260#32
  let main_v14 : FVec F S128 .f32 := broadcastInDim S128 ![] bcast_S_S128 main_cst_2
  let main_v15 : FVec F S128 .f32 := maximumf main_v13 main_v14
  let main_cst_3 : FVec F S_ .f32 := constant S_ .f32 0x42FE0000#32
  let main_v16 : FVec F S128 .f32 := broadcastInDim S128 ![] bcast_S_S128 main_cst_3
  let main_v17 : FVec F S128 .f32 := Host.divf main_v15 main_v16
  fn_part1 (F := F) main_v6 main_v11 main_v17
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10000 : Shape := ⟨1, ![10000]⟩
abbrev S1x10000 : Shape := ⟨2, ![1, 10000]⟩
abbrev S1 : Shape := ⟨1, ![1]⟩
abbrev S25x1x400 : Shape := ⟨3, ![25, 1, 400]⟩
abbrev S25x2x400 : Shape := ⟨3, ![25, 2, 400]⟩
abbrev S1x128 : Shape := ⟨2, ![1, 128]⟩
abbrev S400x10000 : Shape := ⟨2, ![400, 10000]⟩
abbrev S400x128 : Shape := ⟨2, ![400, 128]⟩
abbrev S1x1 : Shape := ⟨2, ![1, 1]⟩
abbrev S1x2x400 : Shape := ⟨3, ![1, 2, 400]⟩
abbrev S400 : Shape := ⟨1, ![400]⟩
abbrev S400x1 : Shape := ⟨2, ![400, 1]⟩
abbrev S1x400 : Shape := ⟨2, ![1, 400]⟩
abbrev S1x1x400 : Shape := ⟨3, ![1, 1, 400]⟩
abbrev S1x1x1 : Shape := ⟨3, ![1, 1, 1]⟩

abbrev nBuf : Space → Nat
  | .hbm => 19
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000, .f32⟩
  | .hbm, ⟨7, _⟩ => ⟨S1x10000, .f32⟩
  | .hbm, ⟨8, _⟩ => ⟨S1, .f32⟩
  | .hbm, ⟨9, _⟩ => ⟨S25x1x400, .f32⟩
  | .hbm, ⟨10, _⟩ => ⟨S25x1x400, .f32⟩
  | .hbm, ⟨11, _⟩ => ⟨S25x2x400, .f32⟩
  | .hbm, ⟨12, _⟩ => ⟨S1x128, .f32⟩
  | .hbm, ⟨13, _⟩ => ⟨S10000x128, .bf16⟩
  | .hbm, ⟨14, _⟩ => ⟨S10000x10000, .i8⟩
  | .hbm, ⟨15, _⟩ => ⟨S1x128, .f32⟩
  | .hbm, ⟨16, _⟩ => ⟨S1x1, .f32⟩
  | .hbm, ⟨17, _⟩ => ⟨S1x1, .f32⟩
  | .hbm, ⟨18, _⟩ => ⟨S1, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S400x128, .bf16⟩
  | .local _ .vmem, ⟨7, _⟩ => ⟨S400x128, .bf16⟩
  | .local _ .vmem, ⟨8, _⟩ => ⟨S400x10000, .i8⟩
  | .local _ .vmem, ⟨9, _⟩ => ⟨S400x10000, .i8⟩
  | .local _ .vmem, ⟨10, _⟩ => ⟨S10000x128, .bf16⟩
  | .local _ .vmem, ⟨11, _⟩ => ⟨S400x10000, .i8⟩
  | .local _ .vmem, ⟨12, _⟩ => ⟨S400x10000, .i8⟩
  | .local _ .vmem, ⟨13, _⟩ => ⟨S10000x128, .bf16⟩
  | .local _ .vmem, ⟨14, _⟩ => ⟨S1x128, .f32⟩
  | .local _ .vmem, ⟨15, _⟩ => ⟨S1x2x400, .f32⟩
  | .local _ .vmem, ⟨16, _⟩ => ⟨S1x2x400, .f32⟩
  | .local _ .vmem, ⟨17, _⟩ => ⟨S1x1, .f32⟩
  | .local _ .vmem, ⟨18, _⟩ => ⟨S1x1, .f32⟩
  | .local _ .vmem, ⟨19, _⟩ => ⟨S1x128, .f32⟩
  | .local _ .vmem, ⟨20, _⟩ => ⟨S1x128, .f32⟩
  | .local _ .vmem, ⟨21, _⟩ => ⟨S10000x128, .i8⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17

abbrev nD : Nat := 1
abbrev τ : Topo := Topo.v5e

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x2x400 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== KernelIdeal.lean ====
variable {F : FTy → Type} [FloatOps F] [Named F]
def κ : String → Option EReal := fun
  | "inv127" => some ((127⁻¹ : ℝ) : EReal)
  | "inv_qscale" => some ((1270000⁻¹ : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10000 : Shape := ⟨1, ![10000]⟩
abbrev S1x10000 : Shape := ⟨2, ![1, 10000]⟩
abbrev S1 : Shape := ⟨1, ![1]⟩
abbrev S1x128 : Shape := ⟨2, ![1, 128]⟩
abbrev S_ : Shape := ⟨0, ![]⟩
abbrev S10000x1 : Shape := ⟨2, ![10000, 1]⟩

abbrev nBuf : Space → Nat
  | .hbm => 91
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000, .f32⟩
  | .hbm, ⟨7, _⟩ => ⟨S1x10000, .f32⟩
  | .hbm, ⟨8, _⟩ => ⟨S1, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x10000, .f32⟩
  | .hbm, ⟨20, _⟩ => ⟨S10000x10000, .f32⟩
  | .hbm, ⟨21, _⟩ => ⟨S10000x10000, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S10000x10000, .i32⟩
  | .hbm, ⟨26, _⟩ => ⟨S10000x10000, .i32⟩
  | .hbm, ⟨27, _⟩ => ⟨S_, .i32⟩
  | .hbm, ⟨28, _⟩ => ⟨S10000x10000, .i32⟩
  | .hbm, ⟨29, _⟩ => ⟨S10000x10000, .i32⟩
  | .hbm, ⟨30, _⟩ => ⟨S10000x10000, .f32⟩
  | .hbm, ⟨31, _⟩ => ⟨S10000x128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .i1⟩
  | .hbm, ⟨46, _⟩ => ⟨S_, .f32⟩
  | .hbm, ⟨47, _⟩ => ⟨S_, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S10000x128, .f32⟩
  | .hbm, ⟨53, _⟩ => ⟨S10000x128, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S10000x128, .i32⟩
  | .hbm, ⟨58, _⟩ => ⟨S10000x128, .i32⟩
  | .hbm, ⟨59, _⟩ => ⟨S_, .i32⟩
  | .hbm, ⟨60, _⟩ => ⟨S10000x128, .i32⟩
  | .hbm, ⟨61, _⟩ => ⟨S10000x128, .i32⟩
  | .hbm, ⟨62, _⟩ => ⟨S10000x128, .f32⟩
  | .hbm, ⟨63, _⟩ => ⟨S_, .f32⟩
  | .hbm, ⟨64, _⟩ => ⟨S10000x10000, .f32⟩
  | .hbm, ⟨65, _⟩ => ⟨S10000x10000, .f32⟩
  | .hbm, ⟨66, _⟩ => ⟨S_, .f32⟩
  | .hbm, ⟨67, _⟩ => ⟨S10000x10000, .f32⟩
  | .hbm, ⟨68, _⟩ => ⟨S10000x10000, .f32⟩
  | .hbm, ⟨69, _⟩ => ⟨S10000x128, .f32⟩
  | .hbm, ⟨70, _⟩ => ⟨S1x128, .f32⟩
  | .hbm, ⟨71, _⟩ => ⟨S10000x128, .f32⟩
  | .hbm, ⟨72, _⟩ => ⟨S10000x128, .f32⟩
  | .hbm, ⟨73, _⟩ => ⟨S1x128, .f32⟩
  | .hbm, ⟨74, _⟩ => ⟨S10000x128, .f32⟩
  | .hbm, ⟨75, _⟩ => ⟨S10000x128, .f32⟩
  | .hbm, ⟨76, _⟩ => ⟨S_, .f32⟩
  | .hbm, ⟨77, _⟩ => ⟨S10000x128, .f32⟩
  | .hbm, ⟨78, _⟩ => ⟨S10000x128, .f32⟩
  | .hbm, ⟨79, _⟩ => ⟨S_, .f32⟩
  | .hbm, ⟨80, _⟩ => ⟨S10000, .f32⟩
  | .hbm, ⟨81, _⟩ => ⟨S_, .f32⟩
  | .hbm, ⟨82, _⟩ => ⟨S10000, .f32⟩
  | .hbm, ⟨83, _⟩ => ⟨S10000, .f32⟩
  | .hbm, ⟨84, _⟩ => ⟨S10000, .f32⟩
  | .hbm, ⟨85, _⟩ => ⟨S_, .f32⟩
  | .hbm, ⟨86, _⟩ => ⟨S10000, .f32⟩
  | .hbm, ⟨87, _⟩ => ⟨S10000, .f32⟩
  | .hbm, ⟨88, _⟩ => ⟨S10000x1, .f32⟩
  | .hbm, ⟨89, _⟩ => ⟨S1, .f32⟩
  | .hbm, ⟨90, _⟩ => ⟨S1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_cst_6 : Ref sig .tc := ⟨.hbm, 47, rfl⟩
abbrev main_call2_v0 : Ref sig .tc := ⟨.hbm, 48, rfl⟩
abbrev main_call2_v1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_c_8 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v27 : Ref sig .tc := ⟨.hbm, 61, rfl⟩
abbrev main_v28 : Ref sig .tc := ⟨.hbm, 62, rfl⟩
abbrev main_cst_9 : Ref sig .tc := ⟨.hbm, 63, rfl⟩
abbrev main_v29 : Ref sig .tc := ⟨.hbm, 64, rfl⟩
abbrev main_v30 : Ref sig .tc := ⟨.hbm, 65, rfl⟩
abbrev main_cst_10 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_call4_cst : Ref sig .tc := ⟨.hbm, 76, rfl⟩
abbrev main_call4_v0 : Ref sig .tc := ⟨.hbm, 77, rfl⟩
abbrev main_v40 : Ref sig .tc := ⟨.hbm, 78, rfl⟩
abbrev main_cst_11 : Ref sig .tc := ⟨.hbm, 79, rfl⟩
abbrev main_v41 : Ref sig .tc := ⟨.hbm, 80, rfl⟩
abbrev main_cst_12 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call5_cst : Ref sig .tc := ⟨.hbm, 85, rfl⟩
abbrev main_call5_v0 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩

abbrev nD : Nat := 1
abbrev τ : Topo := Topo.v5e

variable {F : FTy → Type} [FloatOps F]
-- ==== Proof.BodyOne.lean ====
/- The first pass's body, run once on any whole staging memrefs: what it leaves in its two results and in the kept product. -/
module

public import proofs.«01_k».proof.Proof.Gen.KernelIdeal
public import proofs.«01_k».proof.Proof.Gen.KernelIdeal.Skeleton
public import Idealize.ShloMosaic.Lib.Pipeline.Regions
public import Idealize.ShloMosaic.Lib.VecWindow
public import Idealize.ShloMosaic.Lib.Claim

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's test for the first grid point of the first pass. -/
abbrev isFirst0 (i : grid0.Coords) : Prop := (Scalar.cmpi .ne (Scalar.extui (Scalar.cmpi .eq (BitVec.ofNat 32 (i 0).val) 0#32)) 0#32) = 1#1

set_option maxHeartbeats 1200000 in
/-- At the first point the body computes the product of the features with the first weights, keeps it in scratch, and stores the
    block's second-layer features and its quantised adjacency. -/
theorem body_one_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S400x128 .bf16) (harg6 : arg6.IsWhole) (arg7 : Memref sig .tc .vmem S400x10000 .i8) (harg7 : arg7.IsWhole) (arg8 : Memref sig .tc .vmem S10000x128 .bf16) (harg8 : arg8.IsWhole) (hc : isFirst0 i)
    (x : Vec F S10000x128 .f32) (adj : Vec F S400x10000 .f32) (W1 : Vec F S128x128 .f32) (b1 : Vec F S1x128 .f32) (W2 : Vec F S128x128 .f32) (K : PUnit → sProp 𝕄) :
    iprop(owns (c : Thread nD τ) arg1 fullShare x ∗ owns (c : Thread nD τ) arg2 fullShare adj ∗ owns (c : Thread nD τ) arg3 fullShare W1 ∗ owns (c : Thread nD τ) arg4 fullShare b1 ∗ owns (c : Thread nD τ) arg5 fullShare W2 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare adj ∗ owns (c : Thread nD τ) arg3 fullShare W1 ∗ owns (c : Thread nD τ) arg4 fullShare b1 ∗ owns (c : Thread nD τ) arg5 fullShare W2 ∗ owns (c : Thread nD τ) arg6 fullShare (k0_pay2 adj (k0_pay1 x W1) b1 W2) ∗ owns (c : Thread nD τ) arg7 fullShare (k0_pay3 adj) ∗ owns (c : Thread nD τ) arg8 fullShare (k0_pay1 x W1)) -∗ K ⟨⟩))
      ⊢ wp frame (wpE (defs₀ (F := F)) Variants.none c none) Set.univ (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (View.read_writes_full _ _ _ _ _).trans ?_
    unfold body_one_first.sl.v5 body_one_first.sl.HS0_1
    rw [View.readCov_full, View.readAt_full, View.readAt_full, View.readAt_full, View.readAt_full, View.readAt_full, hf0, hf1, hf2, hf3, hf4]
  isplitl [H6]
  · iexists _; isplitr
    swap; · iexact H6
    ipureintro
    refine (View.read_writes_full _ _ _ _ _).trans ?_
    rw [View.readAt_full, hf1]
  iexists _; isplitr
  swap; · iexact HS0
  ipureintro
  unfold body_one_first.sl.HS0_1
  refine (View.read_writes_full _ _ _ _ _).trans ?_
  rw [View.readAt_full, View.readAt_full, hf0, hf2]

set_option maxHeartbeats 1200000 in
/-- At a later point the body reads the kept product and stores the block's second-layer features and its quantised adjacency. -/
theorem body_one_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S400x128 .bf16) (harg6 : arg6.IsWhole) (arg7 : Memref sig .tc .vmem S400x10000 .i8) (harg7 : arg7.IsWhole) (arg8 : Memref sig .tc .vmem S10000x128 .bf16) (harg8 : arg8.IsWhole) (hc : ¬isFirst0 i)
    (x : Vec F S10000x128 .f32) (adj : Vec F S400x10000 .f32) (W1 : Vec F S128x128 .f32) (b1 : Vec F S1x128 .f32) (W2 : Vec F S128x128 .f32) (s1 : Vec F S10000x128 .bf16) (K : PUnit → sProp 𝕄) :
    iprop(owns (c : Thread nD τ) arg1 fullShare x ∗ owns (c : Thread nD τ) arg2 fullShare adj ∗ owns (c : Thread nD τ) arg3 fullShare W1 ∗ owns (c : Thread nD τ) arg4 fullShare b1 ∗ owns (c : Thread nD τ) arg5 fullShare W2 ∗ (∃ d, owns (c : Thread nD τ) arg6 fullShare d) ∗ (∃ d, owns (c : Thread nD τ) arg7 fullShare d) ∗ owns (c : Thread nD τ) arg8 fullShare s1
        ∗ (iprop(owns (c : Thread nD τ) arg1 fullShare x ∗ owns (c : Thread nD τ) arg2 fullShare adj ∗ owns (c : Thread nD τ) arg3 fullShare W1 ∗ owns (c : Thread nD τ) arg4 fullShare b1 ∗ owns (c : Thread nD τ) arg5 fullShare W2 ∗ owns (c : Thread nD τ) arg6 fullShare (k0_pay2 adj s1 b1 W2) ∗ owns (c : Thread nD τ) arg7 fullShare (k0_pay3 adj) ∗ owns (c : Thread nD τ) arg8 fullShare s1) -∗ K ⟨⟩))
      ⊢ wp frame (wpE (defs₀ (F := F)) Variants.none c none) Set.univ (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hfs0
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (View.read_writes_full _ _ _ _ _).trans ?_
    rw [View.readAt_full, View.readAt_full, View.readAt_full, View.readAt_full, hf1, hfs0, hf3, hf4]
  isplitl [H6]
  · iexists _; isplitr
    swap; · iexact H6
    ipureintro
    refine (View.read_writes_full _ _ _ _ _).trans ?_
    rw [View.readAt_full, hf1]
  iexists _; isplitr; · ipureintro; exact harg8.read_unread _
  iexact HS0

end Cert.Gcn

end
-- ==== Proof.PassOne.lean ====
/- The first pass's points put together: what is kept between them, the proof data, the library's body obligation. -/
module

public import proofs.«01_k».proof.Proof.BodyOne
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.WordCmp

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (W : Dev nD → Valuation τ sig (Elt F))

/-- The block of window `w` that pass one has before it at point `t`, read off the array it entered with. -/
def part0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The first point of pass one. -/
abbrev p0 : Fin cfg0.N := ⟨0, by rw [show cfg0.N = 25 from N_0]; decide⟩

/-- The body's test holds at the first point only. -/
theorem isFirst0_iff (t : Fin cfg0.N) : isFirst0 (grid0.coords t) ↔ t.val = 0 := by
  have ht : t.val < 25 := lt_of_lt_of_eq t.isLt (show cfg0.N = 25 from N_0)
  have e0 : (grid0.coords t 0).val = t.val / 1 % 25 := Pipeline.Grid.coords_val (G := grid0) t 0 (by decide) rfl
  have key : isFirst0 (grid0.coords t) ↔ t.val % 25 = 0 := by
    simp only [isFirst0, e0]
    word_cmp
  rw [key]; omega

/-- The scoped buffers pass one neither stages nor keeps values in, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- What the launch hands pass one: the scratch at some contents, the other scoped buffers, the generator register. -/
theorem start0 (c : Dev nD) : (Pipeline.ΦA spec0 c : sProp 𝕄)
    ⊢ iprop(((∃ d, owns (c : Thread nD τ) (Memref.whole cc0_scratch0) fullShare d) ∗ others0 c) ∗ ∃ r, prngReg c r) := by
  unfold Pipeline.ΦA others0; rw [scopedRest0_eq]; simp only [owns_whole]
  iintro ⟨⟨H0, H1, H2, H3, H4, H5, H6, H7, H8, H9, H10, H11⟩, Hg⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- The scratch, the other scoped buffers and the generator register give the launch's grant back. -/
theorem finish0 (c : Dev nD) : iprop(((∃ d, owns (c : Thread nD τ) (Memref.whole cc0_scratch0) fullShare d) ∗ others0 c) ∗ ∃ r, prngReg c r)
    ⊢ (Pipeline.ΦA spec0 c : sProp 𝕄) := by
  unfold Pipeline.ΦA others0; rw [scopedRest0_eq]; simp only [owns_whole]
  iintro ⟨⟨H0, H1, H2, H3, H4, H5, H6, H7, H8, H9, H10, H11⟩, Hg⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- The product of the features with the first weights, computed at the first point and kept. -/
def keptS1 (c : Dev nD) : Vec F S10000x128 .bf16 := k0_pay1 (part0 W c 0 p0) (part0 W c 2 p0)

/-- What holds between the points of pass one: before the first what the launch hands over, afterwards the scratch at the kept values. -/
def between0 (c : Dev nD) : (n : ℕ) → sProp 𝕄
  | 0 => Pipeline.ΦA spec0 c
  | _ + 1 => iprop((owns (c : Thread nD τ) (Memref.whole cc0_scratch0) fullShare (keptS1 W c) ∗ others0 c) ∗ ∃ r, prngReg c r)

/-- The proof data of pass one entered at `W c`: each input's buffer at its block after the body, the results at what the body stores. -/
def dat0 (c : Dev nD) : Dat τ (Elt F) Unit ℕ (UR sig nD τ) ℕ cfg0 c where
  A w := W c (Proc.devRef .tc (Pipeline.arrRef spec0 w))
  after w t := match w with
    | ⟨0, _⟩ => part0 W c 0 t
    | ⟨1, _⟩ => part0 W c 1 t
    | ⟨2, _⟩ => part0 W c 2 t
    | ⟨3, _⟩ => part0 W c 3 t
    | ⟨4, _⟩ => part0 W c 4 t
    | ⟨5, _⟩ => k0_pay2 (part0 W c 1 t) (keptS1 W c) (part0 W c 3 t) (part0 W c 4 t)
    | ⟨6, _⟩ => k0_pay3 (part0 W c 1 t)
  Φ t := between0 W c t.val
  q _ := fullShare
  owed _ := 0

/-- The arrays enter at `W c`. -/
theorem dat0_A (c : Dev nD) (w : Fin cfg0.W) : (dat0 W c).A w = W c (Proc.devRef .tc (Pipeline.arrRef spec0 w)) := by
  dsimp only [dat0]

/-- Input 0 of pass one is at its block when the body runs. -/
theorem before0_0 (c : Dev nD) (t : Fin cfg0.N) (d) : (dat0 W c).before 0 t d = part0 W c 0 t :=
  ((dat0 W c).before_in_eq_fetched 0 rfl (fun _ => rfl) (fun _ _ _ => rfl)
    (fun t => by rw [show (dat0 W c).after 0 t = part0 W c 0 t from by dsimp only [dat0]]; unfold Dat.blockOf part0; rw [dat0_A]; try rfl) t d).trans
    (by unfold Dat.fetched Dat.blockOf part0; rw [dat0_A]; try rfl)
/-- Input 1 of pass one is at its block when the body runs. -/
theorem before0_1 (c : Dev nD) (t : Fin cfg0.N) (d) : (dat0 W c).before 1 t d = part0 W c 1 t :=
  ((dat0 W c).before_in_eq_fetched 1 rfl (fun _ => rfl) (fun _ _ _ => rfl)
    (fun t => by rw [show (dat0 W c).after 1 t = part0 W c 1 t from by dsimp only [dat0]]; unfold Dat.blockOf part0; rw [dat0_A]; try rfl) t d).trans
    (by unfold Dat.fetched Dat.blockOf part0; rw [dat0_A]; try rfl)
/-- Input 2 of pass one is at its block when the body runs. -/
theorem before0_2 (c : Dev nD) (t : Fin cfg0.N) (d) : (dat0 W c).before 2 t d = part0 W c 2 t :=
  ((dat0 W c).before_in_eq_fetched 2 rfl (fun _ => rfl) (fun _ _ _ => rfl)
    (fun t => by rw [show (dat0 W c).after 2 t = part0 W c 2 t from by dsimp only [dat0]]; unfold Dat.blockOf part0; rw [dat0_A]; try rfl) t d).trans
    (by unfold Dat.fetched Dat.blockOf part0; rw [dat0_A]; try rfl)
/-- Input 3 of pass one is at its block when the body runs. -/
theorem before0_3 (c : Dev nD) (t : Fin cfg0.N) (d) : (dat0 W c).before 3 t d = part0 W c 3 t :=
  ((dat0 W c).before_in_eq_fetched 3 rfl (fun _ => rfl) (fun _ _ _ => rfl)
    (fun t => by rw [show (dat0 W c).after 3 t = part0 W c 3 t from by dsimp only [dat0]]; unfold Dat.blockOf part0; rw [dat0_A]; try rfl) t d).trans
    (by unfold Dat.fetched Dat.blockOf part0; rw [dat0_A]; try rfl)
/-- Input 4 of pass one is at its block when the body runs. -/
theorem before0_4 (c : Dev nD) (t : Fin cfg0.N) (d) : (dat0 W c).before 4 t d = part0 W c 4 t :=
  ((dat0 W c).before_in_eq_fetched 4 rfl (fun _ => rfl) (fun _ _ _ => rfl)
    (fun t => by rw [show (dat0 W c).after 4 t = part0 W c 4 t from by dsimp only [dat0]]; unfold Dat.blockOf part0; rw [dat0_A]; try rfl) t d).trans
    (by unfold Dat.fetched Dat.blockOf part0; rw [dat0_A]; try rfl)

/-- What the body of pass one is called with at point `t`. -/
def bodyPre0 (c : Dev nD) (t : Fin cfg0.N) : sProp 𝕄 :=
  iprop((dat0 W c).Φ t.castSucc ∗ (dat0 W c).owesAt () t.castSucc
    ∗ (∃ d, owns (c : Thread nD τ) (win0_0.stage (cfg0.slots t 0)) fullShare ((dat0 W c).before 0 t d))
    ∗ (∃ d, owns (c : Thread nD τ) (win0_1.stage (cfg0.slots t 1)) fullShare ((dat0 W c).before 1 t d))
    ∗ (∃ d, owns (c : Thread nD τ) (win0_2.stage (cfg0.slots t 2)) fullShare ((dat0 W c).before 2 t d))
    ∗ (∃ d, owns (c : Thread nD τ) (win0_3.stage (cfg0.slots t 3)) fullShare ((dat0 W c).before 3 t d))
    ∗ (∃ d, owns (c : Thread nD τ) (win0_4.stage (cfg0.slots t 4)) fullShare ((dat0 W c).before 4 t d))
    ∗ (∃ d, owns (c : Thread nD τ) (win0_5.stage (cfg0.slots t 5)) fullShare ((dat0 W c).before 5 t d))
    ∗ (∃ d, owns (c : Thread nD τ) (win0_6.stage (cfg0.slots t 6)) fullShare ((dat0 W c).before 6 t d)))

/-- What the body of pass one returns at point `t`. -/
def bodyPost0 (c : Dev nD) (t : Fin cfg0.N) : sProp 𝕄 :=
  iprop((dat0 W c).Φ t.succ ∗ (dat0 W c).owesAt () t.succ
    ∗ owns (c : Thread nD τ) (win0_0.stage (cfg0.slots t 0)) fullShare ((dat0 W c).after 0 t)
    ∗ owns (c : Thread nD τ) (win0_1.stage (cfg0.slots t 1)) fullShare ((dat0 W c).after 1 t)
    ∗ owns (c : Thread nD τ) (win0_2.stage (cfg0.slots t 2)) fullShare ((dat0 W c).after 2 t)
    ∗ owns (c : Thread nD τ) (win0_3.stage (cfg0.slots t 3)) fullShare ((dat0 W c).after 3 t)
    ∗ owns (c : Thread nD τ) (win0_4.stage (cfg0.slots t 4)) fullShare ((dat0 W c).after 4 t)
    ∗ owns (c : Thread nD τ) (win0_5.stage (cfg0.slots t 5)) fullShare ((dat0 W c).after 5 t)
    ∗ owns (c : Thread nD τ) (win0_6.stage (cfg0.slots t 6)) fullShare ((dat0 W c).after 6 t))

set_option maxHeartbeats 6400000 in
/-- The body of pass one runs at every point: the first computes what is kept, the later ones read it. -/
theorem sound0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4]
  rw [show (dat0 W c).owesAt () t.succ = (dat0 W c).owesAt () t.castSucc from rfl,
    show (dat0 W c).Φ t.succ = iprop((owns (c : Thread nD τ) (Memref.whole cc0_scratch0) fullShare (keptS1 W c) ∗ others0 c) ∗ ∃ r, prngReg c r) from rfl]
  dsimp only [dat0]
  by_cases h0 : t.val = 0
  · obtain rfl : t = p0 := Fin.ext h0
    rw [show between0 W c p0.castSucc.val = Pipeline.ΦA spec0 c from rfl]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (start0 c) $$ HΦ
    icases HΦ' with ⟨⟨HS0, Hr⟩, Hg⟩
    iapply (body_one_first c (grid0.coords p0) _ _ _ _ _ _ _ _ _ _ _ _ _ _ _ _ ((isFirst0_iff p0).mpr rfl) (part0 W c 0 p0) (part0 W c 1 p0) (part0 W c 2 p0) (part0 W c 3 p0) (part0 W c 4 p0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := Nat.exists_eq_succ_of_ne_zero h0
    rw [show between0 W c t.castSucc.val = iprop((owns (c : Thread nD τ) (Memref.whole cc0_scratch0) fullShare (keptS1 W c) ∗ others0 c) ∗ ∃ r, prngReg c r) from by
      rw [show t.castSucc.val = n + 1 from hn]; rfl]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (body_one_later c (grid0.coords t) _ _ _ _ _ _ _ _ _ _ _ _ _ _ _ _ (fun h => h0 ((isFirst0_iff t).mp h)) (part0 W c 0 t) (part0 W c 1 t) (part0 W c 2 t) (part0 W c 3 t) (part0 W c 4 t) (keptS1 W c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation for pass one. -/
theorem obligation0 (c : Dev nD) : BodyObligation (dat0 (F := F) W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound0 W c t) rfl .rfl fun _ => .rfl

/-- The launch's grant is what holds before the first point. -/
theorem enter0 (c : Dev nD) : iprop(Pipeline.scopedRest spec0 c ∗ ∃ r, prngReg c r) ⊢ (dat0 (F := F) W c).Φ 0 := by
  rw [show (dat0 W c).Φ 0 = Pipeline.ΦA spec0 c from rfl]
  exact .rfl

/-- What holds after the last point gives the launch's grant back. -/
theorem leave0 (c : Dev nD) : (dat0 (F := F) W c).Φ (Fin.last cfg0.N) ⊢ iprop(Pipeline.scopedRest spec0 c ∗ ∃ r, prngReg c r) := by
  have hN : cfg0.N = 24 + 1 := N_0
  rw [show (dat0 W c).Φ (Fin.last cfg0.N) = iprop((owns (c : Thread nD τ) (Memref.whole cc0_scratch0) fullShare (keptS1 W c) ∗ others0 c) ∗ ∃ r, prngReg c r) from by
    show between0 W c (Fin.last cfg0.N).val = _
    rw [show (Fin.last cfg0.N).val = 24 + 1 from hN]; rfl]
  refine BIBase.Entails.trans ?_ (finish0 c)
  iintro ⟨⟨HS0, Hr⟩, Hg⟩
  isplitl [HS0 Hr]
  · isplitl [HS0]; · iexists _; iexact HS0
    iexact Hr
  iexact Hg

end Cert.Gcn

end
-- ==== Proof.BodyTwo.lean ====
/- The second pass's body, run once on any whole staging memrefs: what it leaves in its result and in the three values it keeps. -/
module

public import proofs.«01_k».proof.Proof.Gen.KernelIdeal
public import proofs.«01_k».proof.Proof.Gen.KernelIdeal.Skeleton
public import Idealize.ShloMosaic.Lib.Pipeline.Regions
public import Idealize.ShloMosaic.Lib.VecWindow
public import Idealize.ShloMosaic.Lib.Claim

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's test for the first grid point of the second pass. -/
abbrev isFirst1 (i : grid1.Coords) : Prop := (Scalar.cmpi .ne (Scalar.extui (Scalar.cmpi .eq (BitVec.ofNat 32 (i 0).val) 0#32)) 0#32) = 1#1

set_option maxHeartbeats 2400000 in
/-- At the first point the body quantises the second-layer features, keeps the quantised features, the factor and the bias row, and adds the block's
contribution to the last layer's bias. -/
theorem body_two_first (c : Dev nD) (i : grid1.Coords) (arg1 : Memref sig .tc .vmem S400x10000 .i8) (harg1 : arg1.IsWhole) (arg2 : Memref sig .tc .vmem S10000x128 .bf16) (harg2 : arg2.IsWhole) (arg3 : Memref sig .tc .vmem S1x128 .f32) (harg3 : arg3.IsWhole) (arg4 : Memref sig .tc .vmem S1x2x400 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S10000x128 .i8) (harg9 : arg9.IsWhole) (hc : isFirst1 i)
    (a8 : Vec F S400x10000 .i8) (s2 : Vec F S10000x128 .bf16) (b2 : Vec F S1x128 .f32) (aux : Vec F S1x2x400 .f32) (fb : Vec F S1x1 .f32) (K : PUnit → sProp 𝕄) :
    iprop(owns (c : Thread nD τ) arg1 fullShare a8 ∗ owns (c : Thread nD τ) arg2 fullShare s2 ∗ owns (c : Thread nD τ) arg3 fullShare b2 ∗ owns (c : Thread nD τ) arg4 fullShare aux ∗ owns (c : Thread nD τ) arg5 fullShare fb ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare a8 ∗ owns (c : Thread nD τ) arg2 fullShare s2 ∗ owns (c : Thread nD τ) arg3 fullShare b2 ∗ owns (c : Thread nD τ) arg4 fullShare aux ∗ owns (c : Thread nD τ) arg5 fullShare fb ∗ owns (c : Thread nD τ) arg6 fullShare (k1_pay1 (k1_pay10 (k1_pay9 fb)) (k1_pay11 a8 (k1_pay5 s2) (k1_pay7 s2) (k1_pay8 s2 b2) aux)) ∗ owns (c : Thread nD τ) arg7 fullShare (k1_pay8 s2 b2) ∗ owns (c : Thread nD τ) arg8 fullShare (k1_pay7 s2) ∗ owns (c : Thread nD τ) arg9 fullShare (k1_pay5 s2)) -∗ K ⟨⟩))
      ⊢ wp frame (wpE (defs₀ (F := F)) Variants.none c none) Set.univ (cc1__pass2_kernel i arg1 harg1 arg2 harg2 arg3 harg3 arg4 harg4 arg5 harg5 arg6 harg6 arg7 harg7 arg8 harg8 arg9 harg9) K := by
  simp only [cc1__pass2_kernel_eq_skeleton]; unfold cc1__pass2_kernel_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (View.read_writes_full _ _ _ _ _).trans ?_
    unfold body_two_first.sl.r_1 body_two_first.sl.r_2 body_two_first.sl.v28 body_two_first.sl.v5 body_two_first.sl.v8 body_two_first.sl.v11
      body_two_first.sl.H5_1 body_two_first.sl.H6_1 body_two_first.sl.H7_1 body_two_first.sl.H8_1 body_two_first.sl.r
    rw [View.readCov_full, View.readCov_full, View.readCov_full, View.readCov_full, View.readAt_full, View.readAt_full, View.readAt_full, View.readAt_full,
      View.readAt_full, hf0, hf1, hf2, hf3, hf4]
  isplitl [H6]
  · iexists _; isplitr
    swap; · iexact H6
    ipureintro
    unfold body_two_first.sl.H6_1
    refine (View.read_writes_full _ _ _ _ _).trans ?_
    unfold body_two_first.sl.r
    rw [View.readAt_full, View.readAt_full, hf1, hf2]
  isplitl [H7]
  · iexists _; isplitr
    swap; · iexact H7
    ipureintro
    unfold body_two_first.sl.H7_1
    refine (View.read_writes_full _ _ _ _ _).trans ?_
    rw [View.readAt_full, hf1]
  iexists _; isplitr
  swap; · iexact H8
  ipureintro
  unfold body_two_first.sl.H8_1
  refine (View.read_writes_full _ _ _ _ _).trans ?_
  rw [View.readAt_full, hf1]

set_option maxHeartbeats 2400000 in
/-- At a later point the body adds the block's contribution to what the result holds. -/
theorem body_two_later (c : Dev nD) (i : grid1.Coords) (arg1 : Memref sig .tc .vmem S400x10000 .i8) (harg1 : arg1.IsWhole) (arg2 : Memref sig .tc .vmem S10000x128 .bf16) (harg2 : arg2.IsWhole) (arg3 : Memref sig .tc .vmem S1x128 .f32) (harg3 : arg3.IsWhole) (arg4 : Memref sig .tc .vmem S1x2x400 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S10000x128 .i8) (harg9 : arg9.IsWhole) (hc : ¬isFirst1 i)
    (a8 : Vec F S400x10000 .i8) (s2 : Vec F S10000x128 .bf16) (b2 : Vec F S1x128 .f32) (aux : Vec F S1x2x400 .f32) (fb : Vec F S1x1 .f32) (acc : Vec F S1x1 .f32) (bc mult : Vec F S1x128 .f32) (q : Vec F S10000x128 .i8) (K : PUnit → sProp 𝕄) :
    iprop(owns (c : Thread nD τ) arg1 fullShare a8 ∗ owns (c : Thread nD τ) arg2 fullShare s2 ∗ owns (c : Thread nD τ) arg3 fullShare b2 ∗ owns (c : Thread nD τ) arg4 fullShare aux ∗ owns (c : Thread nD τ) arg5 fullShare fb ∗ owns (c : Thread nD τ) arg6 fullShare acc ∗ owns (c : Thread nD τ) arg7 fullShare bc ∗ owns (c : Thread nD τ) arg8 fullShare mult ∗ owns (c : Thread nD τ) arg9 fullShare q
        ∗ (iprop(owns (c : Thread nD τ) arg1 fullShare a8 ∗ owns (c : Thread nD τ) arg2 fullShare s2 ∗ owns (c : Thread nD τ) arg3 fullShare b2 ∗ owns (c : Thread nD τ) arg4 fullShare aux ∗ owns (c : Thread nD τ) arg5 fullShare fb ∗ owns (c : Thread nD τ) arg6 fullShare (k1_pay1 (k1_pay10 acc) (k1_pay11 a8 q mult bc aux)) ∗ owns (c : Thread nD τ) arg7 fullShare bc ∗ owns (c : Thread nD τ) arg8 fullShare mult ∗ owns (c : Thread nD τ) arg9 fullShare q) -∗ K ⟨⟩))
      ⊢ wp frame (wpE (defs₀ (F := F)) Variants.none c none) Set.univ (cc1__pass2_kernel i arg1 harg1 arg2 harg2 arg3 harg3 arg4 harg4 arg5 harg5 arg6 harg6 arg7 harg7 arg8 harg8 arg9 harg9) K := by
  simp only [cc1__pass2_kernel_eq_skeleton]; unfold cc1__pass2_kernel_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (View.read_writes_full _ _ _ _ _).trans ?_
    unfold body_two_later.sl.r body_two_later.sl.r_1
    rw [View.readAt_full, View.readAt_full, View.readAt_full, View.readAt_full, View.readAt_full, View.readAt_full, hf0, hf3, hf5, hf6, hf7, hf8]
  isplitl [H6]
  · iexists _; isplitr; · ipureintro; exact harg7.read_unread _
    iexact H6
  isplitl [H7]
  · iexists _; isplitr; · ipureintro; exact harg8.read_unread _
    iexact H7
  iexists _; isplitr; · ipureintro; exact harg9.read_unread _
  iexact H8

end Cert.Gcn

end
-- ==== Proof.PassTwo.lean ====
/- The second pass's points put together: what is kept between them, the running sum, the proof data, the library's body obligation. -/
module

public import proofs.«01_k».proof.Proof.BodyTwo
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.WordCmp

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (W : Dev nD → Valuation τ sig (Elt F))

/-- The block of window `w` that pass two has before it at point `t`, read off the array it entered with. -/
def part1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The first point of pass two. -/
abbrev p1 : Fin cfg1.N := ⟨0, by rw [show cfg1.N = 25 from N_1]; decide⟩

/-- The body's test holds at the first point only. -/
theorem isFirst1_iff (t : Fin cfg1.N) : isFirst1 (grid1.coords t) ↔ t.val = 0 := by
  have ht : t.val < 25 := lt_of_lt_of_eq t.isLt (show cfg1.N = 25 from N_1)
  have e0 : (grid1.coords t 0).val = t.val / 1 % 25 := Pipeline.Grid.coords_val (G := grid1) t 0 (by decide) rfl
  have key : isFirst1 (grid1.coords t) ↔ t.val % 25 = 0 := by
    simp only [isFirst1, e0]
    word_cmp
  rw [key]; omega

/-- The scoped buffers pass two neither stages nor keeps values in, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f))

/-- What the launch hands pass two: the scratch at some contents, the other scoped buffers, the generator register. -/
theorem start1 (c : Dev nD) : (Pipeline.ΦA spec1 c : sProp 𝕄)
    ⊢ iprop(((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ others1 c) ∗ ∃ r, prngReg c r) := by
  unfold Pipeline.ΦA others1; rw [scopedRest1_eq]; simp only [owns_whole]
  iintro ⟨⟨H0, H1, H2, H3, H4, H5, H6, H7, H8, H9, H10, H11, H12, H13⟩, Hg⟩
  isplitl [H11 H12 H13 H0 H1 H2 H3 H4 H5 H6 H7 H8 H9 H10]
  · isplitl [H11]; · iexact H11
    isplitl [H12]; · iexact H12
    isplitl [H13]; · iexact H13
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

/-- The scratch, the other scoped buffers and the generator register give the launch's grant back. -/
theorem finish1 (c : Dev nD) : iprop(((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ others1 c) ∗ ∃ r, prngReg c r)
    ⊢ (Pipeline.ΦA spec1 c : sProp 𝕄) := by
  unfold Pipeline.ΦA others1; rw [scopedRest1_eq]; simp only [owns_whole]
  iintro ⟨⟨H11, H12, H13, H0, H1, H2, H3, H4, H5, H6, H7, H8, H9, H10⟩, Hg⟩
  isplitl [H11 H12 H13 H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hg

/-- The quantised second-layer features, computed at the first point and kept. -/
def keptQ (c : Dev nD) : Vec F S10000x128 .i8 := k1_pay5 (part1 W c 1 p1)

/-- The factor each column's integer sums are multiplied by, computed at the first point and kept. -/
def keptMult (c : Dev nD) : Vec F S1x128 .f32 := k1_pay7 (part1 W c 1 p1)

/-- The bias row with the correction for the adjacency's half step, computed at the first point and kept. -/
def keptBias (c : Dev nD) : Vec F S1x128 .f32 := k1_pay8 (part1 W c 1 p1) (part1 W c 2 p1)

/-- What the result holds after point `n`: the last layer's bias with the contributions of the blocks so far. -/
def sumTo (c : Dev nD) : (n : ℕ) → n < cfg1.N → Vec F S1x1 .f32
  | 0, h => k1_pay1 (k1_pay10 (k1_pay9 (part1 W c 4 p1))) (k1_pay11 (part1 W c 0 ⟨0, h⟩) (keptQ W c) (keptMult W c) (keptBias W c) (part1 W c 3 ⟨0, h⟩))
  | n + 1, h => k1_pay1 (k1_pay10 (sumTo c n (Nat.lt_of_succ_lt h)))
      (k1_pay11 (part1 W c 0 ⟨n + 1, h⟩) (keptQ W c) (keptMult W c) (keptBias W c) (part1 W c 3 ⟨n + 1, h⟩))

/-- What holds between the points of pass two: before the first what the launch hands over, afterwards the scratch at the kept values. -/
def between1 (c : Dev nD) : (n : ℕ) → sProp 𝕄
  | 0 => Pipeline.ΦA spec1 c
  | _ + 1 => iprop((owns (c : Thread nD τ) (Memref.whole cc1_scratch0) fullShare (keptBias W c) ∗ owns (c : Thread nD τ) (Memref.whole cc1_scratch1) fullShare (keptMult W c) ∗ owns (c : Thread nD τ) (Memref.whole cc1_scratch2) fullShare (keptQ W c) ∗ others1 c) ∗ ∃ r, prngReg c r)

/-- The proof data of pass two entered at `W c`: each input's buffer at its block after the body, the results at what the body stores. -/
def dat1 (c : Dev nD) : Dat τ (Elt F) Unit ℕ (UR sig nD τ) ℕ cfg1 c where
  A w := W c (Proc.devRef .tc (Pipeline.arrRef spec1 w))
  after w t := match w with
    | ⟨0, _⟩ => part1 W c 0 t
    | ⟨1, _⟩ => part1 W c 1 t
    | ⟨2, _⟩ => part1 W c 2 t
    | ⟨3, _⟩ => part1 W c 3 t
    | ⟨4, _⟩ => part1 W c 4 t
    | ⟨5, _⟩ => sumTo W c t.val t.isLt
  Φ t := between1 W c t.val
  q _ := fullShare
  owed _ := 0

/-- The arrays enter at `W c`. -/
theorem dat1_A (c : Dev nD) (w : Fin cfg1.W) : (dat1 W c).A w = W c (Proc.devRef .tc (Pipeline.arrRef spec1 w)) := by
  dsimp only [dat1]

/-- Input 0 of pass two is at its block when the body runs. -/
theorem before1_0 (c : Dev nD) (t : Fin cfg1.N) (d) : (dat1 W c).before 0 t d = part1 W c 0 t :=
  ((dat1 W c).before_in_eq_fetched 0 rfl (fun _ => rfl) (fun _ _ _ => rfl)
    (fun t => by rw [show (dat1 W c).after 0 t = part1 W c 0 t from by dsimp only [dat1]]; unfold Dat.blockOf part1; rw [dat1_A]; try rfl) t d).trans
    (by unfold Dat.fetched Dat.blockOf part1; rw [dat1_A]; try rfl)
/-- Input 1 of pass two is at its block when the body runs. -/
theorem before1_1 (c : Dev nD) (t : Fin cfg1.N) (d) : (dat1 W c).before 1 t d = part1 W c 1 t :=
  ((dat1 W c).before_in_eq_fetched 1 rfl (fun _ => rfl) (fun _ _ _ => rfl)
    (fun t => by rw [show (dat1 W c).after 1 t = part1 W c 1 t from by dsimp only [dat1]]; unfold Dat.blockOf part1; rw [dat1_A]; try rfl) t d).trans
    (by unfold Dat.fetched Dat.blockOf part1; rw [dat1_A]; try rfl)
/-- Input 2 of pass two is at its block when the body runs. -/
theorem before1_2 (c : Dev nD) (t : Fin cfg1.N) (d) : (dat1 W c).before 2 t d = part1 W c 2 t :=
  ((dat1 W c).before_in_eq_fetched 2 rfl (fun _ => rfl) (fun _ _ _ => rfl)
    (fun t => by rw [show (dat1 W c).after 2 t = part1 W c 2 t from by dsimp only [dat1]]; unfold Dat.blockOf part1; rw [dat1_A]; try rfl) t d).trans
    (by unfold Dat.fetched Dat.blockOf part1; rw [dat1_A]; try rfl)
/-- Input 3 of pass two is at its block when the body runs. -/
theorem before1_3 (c : Dev nD) (t : Fin cfg1.N) (d) : (dat1 W c).before 3 t d = part1 W c 3 t :=
  ((dat1 W c).before_in_eq_fetched 3 rfl (fun _ => rfl) (fun _ _ _ => rfl)
    (fun t => by rw [show (dat1 W c).after 3 t = part1 W c 3 t from by dsimp only [dat1]]; unfold Dat.blockOf part1; rw [dat1_A]; try rfl) t d).trans
    (by unfold Dat.fetched Dat.blockOf part1; rw [dat1_A]; try rfl)
/-- Input 4 of pass two is at its block when the body runs. -/
theorem before1_4 (c : Dev nD) (t : Fin cfg1.N) (d) : (dat1 W c).before 4 t d = part1 W c 4 t :=
  ((dat1 W c).before_in_eq_fetched 4 rfl (fun _ => rfl) (fun _ _ _ => rfl)
    (fun t => by rw [show (dat1 W c).after 4 t = part1 W c 4 t from by dsimp only [dat1]]; unfold Dat.blockOf part1; rw [dat1_A]; try rfl) t d).trans
    (by unfold Dat.fetched Dat.blockOf part1; rw [dat1_A]; try rfl)

/-- After the first point the result's buffer is found as the point before left it. -/
theorem before1_5 (c : Dev nD) (t : Fin cfg1.N) (h0 : ¬t.val = 0) (d) :
    (dat1 W c).before 5 t d = sumTo W c (t.val - 1) (Nat.lt_of_le_of_lt (Nat.sub_le _ _) t.isLt) := by
  have hN : t.val < 25 := lt_of_lt_of_eq t.isLt (show cfg1.N = 25 from N_1)
  rw [Dat.before_out_kept _ 5 rfl t (by omega) (Bool.eq_false_iff.mpr fun h => by have := (flush1_5 _).mp h; dsimp only at this; omega)
    (fun _ => rfl) (fun _ _ => rfl)]
  dsimp only [dat1]

/-- The running sum at a later point from the one before. -/
theorem sumTo_later (c : Dev nD) (t : Fin cfg1.N) (h0 : ¬t.val = 0) :
    sumTo W c t.val t.isLt = k1_pay1 (k1_pay10 (sumTo W c (t.val - 1) (Nat.lt_of_le_of_lt (Nat.sub_le _ _) t.isLt)))
      (k1_pay11 (part1 W c 0 t) (keptQ W c) (keptMult W c) (keptBias W c) (part1 W c 3 t)) := by
  obtain ⟨n, hn⟩ := t
  cases n with
  | zero => exact absurd rfl h0
  | succ n => rfl

/-- What the body of pass two is called with at point `t`. -/
def bodyPre1 (c : Dev nD) (t : Fin cfg1.N) : sProp 𝕄 :=
  iprop((dat1 W c).Φ t.castSucc ∗ (dat1 W c).owesAt () t.castSucc
    ∗ (∃ d, owns (c : Thread nD τ) (win1_0.stage (cfg1.slots t 0)) fullShare ((dat1 W c).before 0 t d))
    ∗ (∃ d, owns (c : Thread nD τ) (win1_1.stage (cfg1.slots t 1)) fullShare ((dat1 W c).before 1 t d))
    ∗ (∃ d, owns (c : Thread nD τ) (win1_2.stage (cfg1.slots t 2)) fullShare ((dat1 W c).before 2 t d))
    ∗ (∃ d, owns (c : Thread nD τ) (win1_3.stage (cfg1.slots t 3)) fullShare ((dat1 W c).before 3 t d))
    ∗ (∃ d, owns (c : Thread nD τ) (win1_4.stage (cfg1.slots t 4)) fullShare ((dat1 W c).before 4 t d))
    ∗ (∃ d, owns (c : Thread nD τ) (win1_5.stage (cfg1.slots t 5)) fullShare ((dat1 W c).before 5 t d)))

/-- What the body of pass two returns at point `t`. -/
def bodyPost1 (c : Dev nD) (t : Fin cfg1.N) : sProp 𝕄 :=
  iprop((dat1 W c).Φ t.succ ∗ (dat1 W c).owesAt () t.succ
    ∗ owns (c : Thread nD τ) (win1_0.stage (cfg1.slots t 0)) fullShare ((dat1 W c).after 0 t)
    ∗ owns (c : Thread nD τ) (win1_1.stage (cfg1.slots t 1)) fullShare ((dat1 W c).after 1 t)
    ∗ owns (c : Thread nD τ) (win1_2.stage (cfg1.slots t 2)) fullShare ((dat1 W c).after 2 t)
    ∗ owns (c : Thread nD τ) (win1_3.stage (cfg1.slots t 3)) fullShare ((dat1 W c).after 3 t)
    ∗ owns (c : Thread nD τ) (win1_4.stage (cfg1.slots t 4)) fullShare ((dat1 W c).after 4 t)
    ∗ owns (c : Thread nD τ) (win1_5.stage (cfg1.slots t 5)) fullShare ((dat1 W c).after 5 t))

set_option maxHeartbeats 6400000 in
/-- The body of pass two runs at every point: the first computes what is kept, the later ones read it. -/
theorem sound1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4]
  rw [show (dat1 W c).owesAt () t.succ = (dat1 W c).owesAt () t.castSucc from rfl,
    show (dat1 W c).Φ t.succ = iprop((owns (c : Thread nD τ) (Memref.whole cc1_scratch0) fullShare (keptBias W c) ∗ owns (c : Thread nD τ) (Memref.whole cc1_scratch1) fullShare (keptMult W c) ∗ owns (c : Thread nD τ) (Memref.whole cc1_scratch2) fullShare (keptQ W c) ∗ others1 c) ∗ ∃ r, prngReg c r) from rfl]
  rw [show (dat1 W c).Φ t.castSucc = between1 W c t.castSucc.val from rfl]
  by_cases h0 : t.val = 0
  · obtain rfl : t = p1 := Fin.ext h0
    rw [show between1 W c p1.castSucc.val = Pipeline.ΦA spec1 c from rfl]
    dsimp only [dat1]
    iintro ⟨HΦ, Ho, ⟨%d0, H0⟩, ⟨%d1, H1⟩, ⟨%d2, H2⟩, ⟨%d3, H3⟩, ⟨%d4, H4⟩, ⟨%d5, H5⟩⟩
    ihave HΦ' := (start1 c) $$ HΦ
    icases HΦ' with ⟨⟨HS0, HS1, HS2, Hr⟩, Hg⟩
    iapply (body_two_first c (grid1.coords p1) _ _ _ _ _ _ _ _ _ _ _ _ _ _ _ _ _ _ ((isFirst1_iff p1).mpr rfl) (part1 W c 0 p1) (part1 W c 1 p1) (part1 W c 2 p1) (part1 W c 3 p1) (part1 W c 4 p1) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hr Hg]
    · isplitl [HS0 HS1 HS2 Hr]
      · isplitl [HS0]; · iexact HS0
        isplitl [HS1]; · iexact HS1
        isplitl [HS2]; · iexact HS2
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn⟩ : ∃ n, t.val = n + 1 := Nat.exists_eq_succ_of_ne_zero h0
    rw [show between1 W c t.castSucc.val = iprop((owns (c : Thread nD τ) (Memref.whole cc1_scratch0) fullShare (keptBias W c) ∗ owns (c : Thread nD τ) (Memref.whole cc1_scratch1) fullShare (keptMult W c) ∗ owns (c : Thread nD τ) (Memref.whole cc1_scratch2) fullShare (keptQ W c) ∗ others1 c) ∗ ∃ r, prngReg c r) from by
      rw [show t.castSucc.val = n + 1 from hn]; rfl]
    simp only [before1_5 W c t h0]
    dsimp only [dat1]
    rw [sumTo_later W c t h0]
    iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩⟩
    iapply (body_two_later c (grid1.coords t) _ _ _ _ _ _ _ _ _ _ _ _ _ _ _ _ _ _ (fun h => h0 ((isFirst1_iff t).mp h)) (part1 W c 0 t) (part1 W c 1 t) (part1 W c 2 t) (part1 W c 3 t) (part1 W c 4 t) _ (keptBias W c) (keptMult W c) (keptQ W c) _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hr Hg]
    · isplitl [HS0 HS1 HS2 Hr]
      · isplitl [HS0]; · iexact HS0
        isplitl [HS1]; · iexact HS1
        isplitl [HS2]; · iexact HS2
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation for pass two. -/
theorem obligation1 (c : Dev nD) : BodyObligation (dat1 (F := F) W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (sound1 W c t) rfl .rfl fun _ => .rfl

/-- The launch's grant is what holds before the first point. -/
theorem enter1 (c : Dev nD) : iprop(Pipeline.scopedRest spec1 c ∗ ∃ r, prngReg c r) ⊢ (dat1 (F := F) W c).Φ 0 := by
  rw [show (dat1 W c).Φ 0 = Pipeline.ΦA spec1 c from rfl]
  exact .rfl

/-- What holds after the last point gives the launch's grant back. -/
theorem leave1 (c : Dev nD) : (dat1 (F := F) W c).Φ (Fin.last cfg1.N) ⊢ iprop(Pipeline.scopedRest spec1 c ∗ ∃ r, prngReg c r) := by
  have hN : cfg1.N = 24 + 1 := N_1
  rw [show (dat1 W c).Φ (Fin.last cfg1.N) = iprop((owns (c : Thread nD τ) (Memref.whole cc1_scratch0) fullShare (keptBias W c) ∗ owns (c : Thread nD τ) (Memref.whole cc1_scratch1) fullShare (keptMult W c) ∗ owns (c : Thread nD τ) (Memref.whole cc1_scratch2) fullShare (keptQ W c) ∗ others1 c) ∗ ∃ r, prngReg c r) from by
    show between1 W c (Fin.last cfg1.N).val = _
    rw [show (Fin.last cfg1.N).val = 24 + 1 from hN]; rfl]
  refine BIBase.Entails.trans ?_ (finish1 c)
  iintro ⟨⟨HS0, HS1, HS2, Hr⟩, Hg⟩
  isplitl [HS0 HS1 HS2 Hr]
  · isplitl [HS0]; · iexists _; iexact HS0
    isplitl [HS1]; · iexists _; iexact HS1
    isplitl [HS2]; · iexists _; iexact HS2
    iexact Hr
  iexact Hg

end Cert.Gcn

end
-- ==== Proof.Chain.lean ====
/- The whole program: the two passes as records of the region kit, chained with the host operations,
   and what every run leaves in the result and in the arguments. -/
module

public import proofs.«01_k».proof.Proof.PassOne
public import proofs.«01_k».proof.Proof.PassTwo
public import proofs.«01_k».proof.Proof.Gen.KernelIdeal.Regions
public import Idealize.ShloMosaic.Lib.Pipeline.RegionArraysS

@[expose] public section

set_option maxRecDepth 16384

noncomputable section

namespace Cert.Gcn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F] [Named F]

local notation "𝕄" => MT nD τ sig Unit (Elt F) ℕ (UR sig nD τ) ℕ

variable (m : (ℓ : Loc nD τ sig) → Buf (Elt F) ℓ)

/-- The unscoped buffers when pass one is entered. -/
def U1 (c : Dev nD) : Valuation τ sig (Elt F) := StableHlo.after hostOps0 (fun b => m (c, b))
/-- The unscoped buffers when pass one is left. -/
def U2 (c : Dev nD) : Valuation τ sig (Elt F) := afterRegion (dat0 (U1 m) c) (U1 m c)
/-- The unscoped buffers when pass two is entered. -/
def U3 (c : Dev nD) : Valuation τ sig (Elt F) := StableHlo.after hostOps1 (U2 m c)
/-- The unscoped buffers when pass two is left. -/
def U4 (c : Dev nD) : Valuation τ sig (Elt F) := afterRegion (dat1 (U3 m) c) (U3 m c)
/-- The unscoped buffers at the end. -/
def U5 (c : Dev nD) : Valuation τ sig (Elt F) := StableHlo.after hostOps2 (U4 m c)

/-- A buffer the first host operations do not write is as launched. -/
theorem U1_of (c : Dev nD) (r : Ref sig .tc) (h : r ∉ hostOps0_W) : U1 m c (Proc.devRef .tc r) = m (c, Proc.devRef .tc r) :=
  StableHlo.after_of_writes_sub hostOps0 _ hostOps0_writes h
/-- Pass one changes its two results only. -/
theorem U2_of (c : Dev nD) (r : Ref sig .tc) (h : ∀ w, Pipeline.arrRef spec0 w = r → (cfg0.win w).isOut = false) :
    U2 m c (Proc.devRef .tc r) = U1 m c (Proc.devRef .tc r) :=
  Pipeline.afterRegion_keeps (dat0 (U1 m) c) (U1 m c) launch0.win.arr_inj (fun w => dat0_A (U1 m) c w) r h
/-- A buffer the middle host operations do not write is as pass one left it. -/
theorem U3_of (c : Dev nD) (r : Ref sig .tc) (h : r ∉ hostOps1_W) : U3 m c (Proc.devRef .tc r) = U2 m c (Proc.devRef .tc r) :=
  StableHlo.after_of_writes_sub hostOps1 _ hostOps1_writes h
/-- Pass two changes its result only. -/
theorem U4_of (c : Dev nD) (r : Ref sig .tc) (h : ∀ w, Pipeline.arrRef spec1 w = r → (cfg1.win w).isOut = false) :
    U4 m c (Proc.devRef .tc r) = U3 m c (Proc.devRef .tc r) :=
  Pipeline.afterRegion_keeps (dat1 (U3 m) c) (U3 m c) launch1.win.arr_inj (fun w => dat1_A (U3 m) c w) r h
/-- A buffer the last host operation does not write is as pass two left it. -/
theorem U5_of (c : Dev nD) (r : Ref sig .tc) (h : r ∉ hostOps2_W) : U5 m c (Proc.devRef .tc r) = U4 m c (Proc.devRef .tc r) :=
  StableHlo.after_of_writes_sub hostOps2 _ hostOps2_writes h

/-- A buffer that nothing writes ends as launched. -/
theorem U5_keeps (c : Dev nD) (r : Ref sig .tc) (h0 : r ∉ hostOps0_W) (h1 : r ∉ hostOps1_W) (h2 : r ∉ hostOps2_W)
    (k0 : ∀ w, Pipeline.arrRef spec0 w = r → (cfg0.win w).isOut = false) (k1 : ∀ w, Pipeline.arrRef spec1 w = r → (cfg1.win w).isOut = false) :
    U5 m c (Proc.devRef .tc r) = m (c, Proc.devRef .tc r) :=
  (U5_of m c r h2).trans ((U4_of m c r k1).trans ((U3_of m c r h1).trans ((U2_of m c r k0).trans (U1_of m c r h0))))

/-- Every TensorCore semaphore may carry the one index there is. -/
def ixs (g : GSem nD τ sig) : Finset Unit := if g.1.2 = .tc then {()} else ∅

/-- One level serves every wait: nobody owes anything. -/
def levels (_ : GSem nD τ sig) (_ : Unit) : ℕ := 0

/-- Both passes' proof data, each entered at the valuation before it. -/
def datas : (p : Fin 2) → (c : Dev nD) → Dat τ (Elt F) Unit ℕ (UR sig nD τ) ℕ (cfgs p) c
  | ⟨0, _⟩ => fun c => dat0 (U1 m) c
  | ⟨1, _⟩ => fun c => dat1 (U3 m) c

/-- Nothing is owed, so the levels of any pass are cut at zero. -/
theorem cut (p : Fin 2) : Pipeline.LevelCut (pcfgs (F := F)) adm () ixs levels p (fun _ : Dev nD => (0 : CellTallies nD τ sig Unit)) (fun _ => (0 : ℕ)) where
  hι c w s := by unfold ixs; rw [if_pos rfl]; exact Finset.mem_singleton_self _
  hιb c w s := Nat.le_refl _
  hD c g i h := absurd h (Nat.lt_irrefl _)

/-- The generator register at some state. -/
abbrev gen (c : Dev nD) : sProp 𝕄 := iprop(∃ r, prngReg c r)

/-- Pass one as a record of the region kit. -/
def region0 : RegionSeg (pcfgs (F := F)) adm (datas m) () defs₀ Variants.none ixs levels 0 :=
  RegionSeg.ofHeldIn (pcfgs (F := F)) adm (datas m) () defs₀ Variants.none ixs levels 0 (fun _ => 0) (Pipeline.ucRefs τ sig) gen gen
    launch0.toP rfl (fun c => (obligation0 (U1 m) c).loose) (fun _ _ => rfl) (fun _ => rfl)
    (fun c => (dat0 (U1 m) c).share_full fun _ => rfl) (fun c => enter0 (U1 m) c) (fun c => leave0 (U1 m) c)
    (fun _ => 0) (cut 0) (fun _ => iprop(emp)) (U1 m) (fun c w => dat0_A (U1 m) c w)

/-- Pass two as a record of the region kit. -/
def region1 : RegionSeg (pcfgs (F := F)) adm (datas m) () defs₀ Variants.none ixs levels 1 :=
  RegionSeg.ofHeldIn (pcfgs (F := F)) adm (datas m) () defs₀ Variants.none ixs levels 1 (fun _ => 0) (Pipeline.ucRefs τ sig) gen gen
    launch1.toP rfl (fun c => (obligation1 (U3 m) c).loose) (fun _ _ => rfl) (fun _ => rfl)
    (fun c => (dat1 (U3 m) c).share_full fun _ => rfl) (fun c => enter1 (U3 m) c) (fun c => leave1 (U3 m) c)
    (fun _ => 0) (cut 1) (fun _ => iprop(emp)) (U3 m) (fun c w => dat1_A (U3 m) c w)

/-- What rides beside the buffers: the core owes nothing, and the generator register. -/
abbrev rides (c : Dev nD) : sProp 𝕄 := iprop((∃ Wd, owes (c : Thread nD τ) (0 : CellTallies nD τ sig Unit) Wd) ∗ gen c ∗ emp)

/-- The host operations of stretch 0 over the unscoped buffers. -/
def host0 : HostSeg (Ix := Unit) (Name := ℕ) (U := UR sig nD τ) (Lvl := ℕ) (pcfgs (F := F)) defs₀ Variants.none ixs levels :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) rides

/-- The host operations of stretch 1 over the unscoped buffers. -/
def host1 : HostSeg (Ix := Unit) (Name := ℕ) (U := UR sig nD τ) (Lvl := ℕ) (pcfgs (F := F)) defs₀ Variants.none ixs levels :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) rides

/-- The host operations of stretch 2 over the unscoped buffers. -/
def host2 : HostSeg (Ix := Unit) (Name := ℕ) (U := UR sig nD τ) (Lvl := ℕ) (pcfgs (F := F)) defs₀ Variants.none ixs levels :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) rides

/-- The program's items in order. -/
abbrev items (_ : Dev nD) : List (Seg (pcfgs (F := F)) adm (datas m) () defs₀ Variants.none ixs levels) :=
  [.host (host0 m), .region (region0 m), .host (host1 m), .region (region1 m), .host (host2 m)]

/-- A pass's arrays are unscoped buffers. -/
theorem arrays_unscoped (p : Fin 2) : Pipeline.arrRefs (τ := τ) (pcfgs (F := F) p).spec ⊆ Pipeline.ucRefs τ sig := by
  match p with
  | ⟨0, _⟩ => exact Pipeline.arrRefs_sub_ucRefs _ launch0.win.arr_unscoped
  | ⟨1, _⟩ => exact Pipeline.arrRefs_sub_ucRefs _ launch1.win.arr_unscoped

end Cert.Gcn

end
-- ==== Proof.Whole.lean ====
/- What every run of the whole program leaves in the result and in the arguments. -/
module

public import proofs.«01_k».proof.Proof.Chain
public import proofs.«01_k».proof.Proof.Gen.KernelIdeal.Regions
public import Idealize.ShloMosaic.Lib.Pipeline.RegionArraysS

@[expose] public section

set_option maxRecDepth 16384

noncomputable section

namespace Cert.Gcn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F] [Named F]

local notation "𝕄" => MT nD τ sig Unit (Elt F) ℕ (UR sig nD τ) ℕ

variable (m : (ℓ : Loc nD τ sig) → Buf (Elt F) ℓ)

/-- Pass one is entered from what the first host operations leave. -/
theorem region0_pre (c : Dev nD) : iprop(StableHlo.held (c : Thread nD τ) (Pipeline.ucRefs τ sig) (U1 m c) ∗ rides c) ⊢ (region0 m).pre c := by
  unfold region0
  refine BIBase.Entails.trans ?_ (RegionSeg.ofHeldIn_pre (arrays_unscoped 0) c)
  exact .rfl

/-- Pass one leaves its arrays at `U2`. -/
theorem region0_post (c : Dev nD) : (region0 m).post c ⊢ iprop(StableHlo.held (c : Thread nD τ) (Pipeline.ucRefs τ sig) (U2 m c) ∗ rides c) := by
  unfold region0
  exact RegionSeg.ofHeldIn_post (arrays_unscoped 0) c

/-- Pass two is entered from what the middle host operations leave. -/
theorem region1_pre (c : Dev nD) : iprop(StableHlo.held (c : Thread nD τ) (Pipeline.ucRefs τ sig) (U3 m c) ∗ rides c) ⊢ (region1 m).pre c := by
  unfold region1
  refine BIBase.Entails.trans ?_ (RegionSeg.ofHeldIn_pre (arrays_unscoped 1) c)
  exact .rfl

/-- Pass two leaves its arrays at `U4`. -/
theorem region1_post (c : Dev nD) : (region1 m).post c ⊢ iprop(StableHlo.held (c : Thread nD τ) (Pipeline.ucRefs τ sig) (U4 m c) ∗ rides c) := by
  unfold region1
  exact RegionSeg.ofHeldIn_post (arrays_unscoped 1) c

/-- At the end the generator register is let go. -/
theorem last_step (c : Dev nD) : iprop(StableHlo.held (c : Thread nD τ) (Pipeline.ucRefs τ sig) (U5 m c) ∗ rides c)
    ⊢ iprop(StableHlo.held (c : Thread nD τ) (Pipeline.ucRefs τ sig) (U5 m c) ∗ ∃ Wd, owes (c : Thread nD τ) (0 : CellTallies nD τ sig Unit) Wd) := by
  iintro ⟨Hh, HO, -⟩
  isplitl [Hh]; · iexact Hh
  iexact HO

/-- The grant of the launch's ghost state. -/
theorem launch_grant : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => iprop(emp))) := by
  iintro Hu
  imodintro
  isplitl [Hu]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- Every weakly fair run ends, with every unscoped buffer at `U5` and every semaphore counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem (c, b) = U5 m c b) ∧ r.2.sem = fun _ => 0) := by
  refine Pipeline.θ_run_regions_kit_dev_sems (pcfgs (F := F)) adm (datas m) () cellOf_inj emb₁ defs₀ Variants.none ixs levels m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide)
    (O₀ := 0) (hL := fun g hg => if_neg hg) (G := fun _ => iprop(emp))
    (u₀ := initOf (Pipeline.cells cfgs cellOf_inj) (Pipeline.launchToks cfgs cellOf_inj)) (hu₀ := launch_grant)
    (T₀ := fun c => iprop(StableHlo.held (c : Thread nD τ) (Pipeline.ucRefs τ sig) (fun b => m (c, b)) ∗ rides c))
    (Tₙ := fun c => StableHlo.held (c : Thread nD τ) (Pipeline.ucRefs τ sig) (U5 m c))
    (hch := fun c => ⟨.rfl, region0_pre m c, region0_post m c, region1_pre m c, region1_post m c, last_step m c⟩)
    (hinit := ?_)
    (QY := fun c s => ∀ b ∈ Pipeline.ucRefs τ sig, s.mem ((c : Thread nD τ).1, b) = U5 m c b)
    (hfin := fun c s' => ?_) (hQ := fun _ h hz => ⟨h, funext fun g => hz g (.inr (regions_no_unscoped g.2))⟩)
  · refine Pipeline.initEach ixs levels fun c => ?_
    rw [show unscopedBufs c (fun b => m ((c : Thread nD τ).loc b))
      = StableHlo.held (c : Thread nD τ) (Pipeline.ucRefs τ sig) (fun b => m (c, b)) from Pipeline.unscopedBufs_held c (fun b => m (c, b))]
    iintro ⟨⟨Hh, -, HO, -, Hp, -⟩, -⟩
    imodintro
    isplitl [Hh]; · iexact Hh
    isplitl [HO]; · iexists ∅; iexact HO
    isplitl [Hp]; · iexists _; iexact Hp
    iempintro
  · iintro ⟨Hh, HSI⟩
    unfold StableHlo.held
    imodintro
    iapply (pointsTo_read_all (Pipeline.ucRefs τ sig) (fun b => ((c : Thread nD τ).1, b)) (U5 m c) s')
    isplitl [Hh] <;> iassumption

/-- Every weakly fair run ends with the result at `U5`, the arguments as launched and every semaphore counter at zero. -/
theorem run_result (ρ : Dev nD → PrngReg) :
    θ_run defs (onTc (τ := τ) (main (F := F))) ⟨m, fun _ => 0, ρ⟩ (fun r => (∀ c : Dev nD,
        r.2.mem ((c.tc : Thread nD τ).loc main_v8) = U5 m c (Proc.devRef .tc main_v8)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0) := by
  refine (θ_run defs _ _).mono (fun _ h => ⟨fun c => ?_, h.2⟩) (run_main m ρ)
  have keep (r : Ref sig .tc) (h0 : r ∉ hostOps0_W) (h1 : r ∉ hostOps1_W) (h2 : r ∉ hostOps2_W)
      (k0 : ∀ w, Pipeline.arrRef spec0 w = r → (cfg0.win w).isOut = false) (k1 : ∀ w, Pipeline.arrRef spec1 w = r → (cfg1.win w).isOut = false)
      (hs : (Proc.devRef .tc r : DevRef τ sig) ∈ Pipeline.ucRefs τ sig) := (h.1 c _ hs).trans (U5_keeps m c r h0 h1 h2 k0 k1)
  exact ⟨h.1 c (Proc.devRef .tc main_v8) (Finset.mem_filter.mpr ⟨StableHlo.devRef_mem_tcRefs main_v8, by decide⟩),
    keep main_arg0 (by decide) (by decide) (by decide) (by decide) (by decide) (Finset.mem_filter.mpr ⟨StableHlo.devRef_mem_tcRefs main_arg0, by decide⟩),
    keep main_arg1 (by decide) (by decide) (by decide) (by decide) (by decide) (Finset.mem_filter.mpr ⟨StableHlo.devRef_mem_tcRefs main_arg1, by decide⟩),
    keep main_arg2 (by decide) (by decide) (by decide) (by decide) (by decide) (Finset.mem_filter.mpr ⟨StableHlo.devRef_mem_tcRefs main_arg2, by decide⟩),
    keep main_arg3 (by decide) (by decide) (by decide) (by decide) (by decide) (Finset.mem_filter.mpr ⟨StableHlo.devRef_mem_tcRefs main_arg3, by decide⟩),
    keep main_arg4 (by decide) (by decide) (by decide) (by decide) (by decide) (Finset.mem_filter.mpr ⟨StableHlo.devRef_mem_tcRefs main_arg4, by decide⟩),
    keep main_arg5 (by decide) (by decide) (by decide) (by decide) (by decide) (Finset.mem_filter.mpr ⟨StableHlo.devRef_mem_tcRefs main_arg5, by decide⟩),
    keep main_arg6 (by decide) (by decide) (by decide) (by decide) (by decide) (Finset.mem_filter.mpr ⟨StableHlo.devRef_mem_tcRefs main_arg6, by decide⟩),
    keep main_arg7 (by decide) (by decide) (by decide) (by decide) (by decide) (Finset.mem_filter.mpr ⟨StableHlo.devRef_mem_tcRefs main_arg7, by decide⟩),
    keep main_arg8 (by decide) (by decide) (by decide) (by decide) (by decide) (Finset.mem_filter.mpr ⟨StableHlo.devRef_mem_tcRefs main_arg8, by decide⟩)⟩

end Cert.Gcn

end
-- ==== Proof.FrameBits.lean ====
/- The kernel at machine words: the same program as the idealized one, with each named constant its word. -/
module

public import proofs.«01_k».proof.Defs
public import proofs.«01_k».proof.Proof.Whole
public import proofs.«01_k».proof.Proof.Gen.Kernel
public import proofs.«01_k».proof.Proof.Gen.KernelIdeal

@[expose] public section

set_option maxRecDepth 16384

noncomputable section

namespace Cert.Gcn

open Idealize.ShloMosaic Idealize.ShloMosaic.TcCoe Idealize.SL.Sem

/-- At machine words a named constant is the word that the program was written with. -/
local instance namedBits : Named Bits where
  named _ _ {φ} bits := FloatOps.ofBits (F := Bits) φ bits

/-- The two programs' bodies are the same. -/
theorem bodies_eq : Cert.KernelIdeal.defs₀ (F := Bits) = Cert.Kernel.defs₀ (F := Bits) := by
  unfold Cert.KernelIdeal.defs₀ Cert.Kernel.defs₀
  refine congrArg Defs.onTc ?_
  funext l a
  match l, a with
  | 0, (t, s) => rfl
  | 1, (t, s) => rfl

/-- The two programs' definitions are the same. -/
theorem defs_eq : Cert.KernelIdeal.defs (F := Bits) = Cert.Kernel.defs (F := Bits) :=
  congrArg (Pipeline.defs (Cert.Kernel.pcfgs (F := Bits))) bodies_eq

/-- The two programs' host code is the same. -/
theorem main_eq : Cert.KernelIdeal.main (F := Bits) = Cert.Kernel.main (F := Bits) := rfl

/-- The kernel at machine words runs to the end, leaves its arguments unchanged and every semaphore counter at zero. -/
theorem frame_kernel : Cert.quiescent_Kernel := fun m ρ _ => by
  rw [← defs_eq]
  exact (θ_run Cert.KernelIdeal.defs _ _).mono (fun _ h => ⟨fun c => (h.1 c).2, h.2⟩) (run_result (F := Bits) m ρ)

end Cert.Gcn

end
-- ==== Proof.Consts.lean ====
/- The float constants the two programs spell, as the extended reals they denote, and the two named constants. -/
module

public import proofs.«01_k».proof.KernelIdeal
public import Idealize.ShloMosaic.PureOps.Ideal
public import Idealize.ShloMosaic.PureOps.IdealRules

@[expose] public section

noncomputable section

namespace Cert.Gcn

open Idealize.ShloMosaic

/-- The adjacency's quantisation scale is the real 1270000. -/
theorem lit_qscale : Ideal.ofBits .f32 0x499B0780#32 = ((1270000 : ℝ) : EReal) := by
  simp [Ideal.ofBits, Ideal.ieee, -EReal.coe_mul]; norm_num

/-- One half. -/
theorem lit_half : Ideal.ofBits .f32 0x3F000000#32 = ((1 / 2 : ℝ) : EReal) := by
  simp [Ideal.ofBits, Ideal.ieee, -EReal.coe_mul]; norm_num

/-- One over 128, exactly. -/
theorem lit_inv128 : Ideal.ofBits .f32 0x3C000000#32 = ((1 / 128 : ℝ) : EReal) := by
  simp [Ideal.ofBits, Ideal.ieee, -EReal.coe_mul]; norm_num

/-- The number of features. -/
theorem lit_128 : Ideal.ofBits .f32 0x43000000#32 = ((128 : ℝ) : EReal) := by
  simp [Ideal.ofBits, Ideal.ieee, -EReal.coe_mul]; norm_num

/-- The largest 8-bit level. -/
theorem lit_127 : Ideal.ofBits .f32 0x42FE0000#32 = ((127 : ℝ) : EReal) := by
  simp [Ideal.ofBits, Ideal.ieee, -EReal.coe_mul]; norm_num

/-- The bound of the precondition is 2 to the 26th. -/
theorem lit_bound : Ideal.ofBits .f32 0x4C800000#32 = ((67108864 : ℝ) : EReal) := by
  simp [Ideal.ofBits, Ideal.ieee, -EReal.coe_mul]; norm_num

/-- The floor of the column scale is a positive real. -/
theorem lit_tiny : ∃ e : ℝ, 0 < e ∧ Ideal.ofBits .f32 0x0DA24260#32 = (e : EReal) := by
  refine ⟨_, ?_, by simp [Ideal.ofBits, Ideal.ieee, -EReal.coe_mul]; rfl⟩
  positivity

/-- The kernel's constant named `inv127` is one over 127. -/
theorem named_inv127 :
    Named.named (F := Ideal) Cert.KernelIdeal.κ "inv127" (φ := .f32) 0x3C010204#32 = ((127⁻¹ : ℝ) : EReal) :=
  IdealRules.named_const.ideal_named_scalar _ _ _ _ rfl

/-- The kernel's constant named `inv_qscale` is one over 1270000. -/
theorem named_inv_qscale :
    Named.named (F := Ideal) Cert.KernelIdeal.κ "inv_qscale" (φ := .f32) 0x35535DD3#32 = ((1270000⁻¹ : ℝ) : EReal) :=
  IdealRules.named_const.ideal_named_scalar _ _ _ _ rfl

end Cert.Gcn

end
-- ==== Proof.Scalars.lean ====
/- The scalar mathematics of the two quantisers and of the second layer, on extended reals. -/
module

public import proofs.«01_k».proof.Proof.Consts
public import Idealize.ShloMosaic.PureOps
public import Mathlib.Data.EReal.Inv

@[expose] public section

noncomputable section

namespace Cert.Gcn

open Idealize.ShloMosaic

/-- The 8-bit level of an extended real: its integer part toward zero, kept between -128 and 127. -/
def level (x : EReal) : ℤ := Ideal.toIntClamped (-128) 127 x

/-- A level is at least -128. -/
theorem level_ge (x : EReal) : -128 ≤ level x := by
  induction x using EReal.rec with
  | bot => simp [level]
  | top => simp [level]
  | coe r => rw [level, Ideal.toIntClamped_coe]; exact le_max_left _ _

/-- A level is at most 127. -/
theorem level_le (x : EReal) : level x ≤ 127 := by
  induction x using EReal.rec with
  | bot => simp [level]
  | top => simp [level]
  | coe r => rw [level, Ideal.toIntClamped_coe]; exact max_le (by norm_num) (min_le_left _ _)

/-- The kernel's conversion to 8 bits, read as an integer, is the level. -/
theorem toInt_fptosi8 (x : EReal) : (Ideal.fptosi 8 x).toInt = level x := by
  have h : Ideal.fptosi 8 x = BitVec.ofInt 8 (level x) := by
    unfold Ideal.fptosi level; norm_num
  rw [h, BitVec.toInt_ofInt]
  have := level_ge x
  have := level_le x
  rw [Int.bmod_eq_of_le] <;> norm_num <;> omega

/-- The integer part toward zero kept to 32 bits. -/
theorem toInt_fptosi32 (x : EReal) : (Ideal.fptosi 32 x).toInt = Ideal.toIntClamped (-2147483648) 2147483647 x := by
  have h : Ideal.fptosi 32 x = BitVec.ofInt 32 (Ideal.toIntClamped (-2147483648) 2147483647 x) := by
    unfold Ideal.fptosi; norm_num
  have hb : -2147483648 ≤ Ideal.toIntClamped (-2147483648) 2147483647 x ∧ Ideal.toIntClamped (-2147483648) 2147483647 x ≤ 2147483647 := by
    induction x using EReal.rec with
    | bot => simp
    | top => simp
    | coe r => rw [Ideal.toIntClamped_coe]; exact ⟨le_max_left _ _, max_le (by norm_num) (min_le_left _ _)⟩
  rw [h, BitVec.toInt_ofInt]
  rw [Int.bmod_eq_of_le] <;> norm_num <;> omega

/-- The signed maximum of two words is the maximum of their integers. -/
theorem toInt_maxsi {w : Nat} (a b : BitVec w) : (IntOp.maxsi a b).toInt = max a.toInt b.toInt := by
  unfold IntOp.maxsi
  split <;> rename_i h <;> rw [BitVec.slt_iff_toInt_lt] at h <;> omega

/-- The signed minimum of two words is the minimum of their integers. -/
theorem toInt_minsi {w : Nat} (a b : BitVec w) : (IntOp.minsi a b).toInt = min a.toInt b.toInt := by
  unfold IntOp.minsi
  split <;> rename_i h <;> rw [BitVec.slt_iff_toInt_lt] at h <;> omega

/-- The reference's conversion to 32 bits followed by the clip to the 8-bit range is the level too. -/
theorem toInt_clip (x : EReal) :
    (IntOp.minsi 127#32 (IntOp.maxsi 4294967168#32 (Ideal.fptosi 32 x))).toInt = level x := by
  rw [toInt_minsi, toInt_maxsi, toInt_fptosi32]
  have h1 : (127#32 : BitVec 32).toInt = 127 := by decide
  have h2 : (4294967168#32 : BitVec 32).toInt = -128 := by decide
  rw [h1, h2]
  unfold level
  induction x using EReal.rec with
  | bot => simp
  | top => simp
  | coe r => rw [Ideal.toIntClamped_coe, Ideal.toIntClamped_coe]; omega

/-- Rounding half away from zero, before the integer part is taken: a half is added to what is at least zero, taken from
    what is below. -/
def nudge (t : EReal) : EReal :=
  t + if 0 ≤ t then Ideal.ofBits .f32 0x3F000000#32 else Ideal.ofBits .f32 0xBF000000#32

/-- The level of an entry of the second layer's features at its column's scale. -/
def quant (x sc : EReal) : ℤ := level (nudge (Ideal.div x sc))

/-- At an infinite scale every level is zero. -/
theorem quant_top (x : EReal) : quant x ⊤ = 0 := by
  have h : Ideal.div x ⊤ = 0 := by
    unfold Ideal.div
    rw [if_neg (by simp)]
    simp
  unfold quant nudge level
  rw [h, if_pos le_rfl, zero_add, lit_half, Ideal.toIntClamped_coe, if_pos (by norm_num)]
  have : ⌊(1 / 2 : ℝ)⌋ = 0 := by rw [Int.floor_eq_iff]; norm_num
  rw [this]; norm_num

/-- The scale of a column, from the largest magnitude in it. -/
def scaleOf (mx : EReal) : EReal := Ideal.div (max mx (Ideal.ofBits .f32 0x0DA24260#32)) (Ideal.ofBits .f32 0x42FE0000#32)

/-- The kernel multiplies by the named one over 127 where the reference divides by 127. -/
theorem scale_kernel (mx : EReal) :
    max mx (Ideal.ofBits .f32 0x0DA24260#32) * Named.named (F := Ideal) Cert.KernelIdeal.κ "inv127" (φ := .f32) 0x3C010204#32
      = scaleOf mx := by
  rw [scaleOf, named_inv127, lit_127, Ideal.div_coe (by norm_num), one_div]

/-- A scale is a real or infinite, never minus infinity. -/
theorem scaleOf_cases (mx : EReal) : scaleOf mx = ⊤ ∨ ∃ s : ℝ, scaleOf mx = (s : EReal) := by
  obtain ⟨e, he, h⟩ := lit_tiny
  rw [scaleOf, lit_127, Ideal.div_coe (by norm_num), h]
  induction mx using EReal.rec with
  | bot => right; exact ⟨e * (1 / 127), by rw [max_eq_right bot_le, EReal.coe_mul]⟩
  | top => left; rw [max_eq_left le_top]; exact EReal.top_mul_coe_of_pos (by norm_num)
  | coe r => right; exact ⟨max r e * (1 / 127), by rw [← EReal.coe_strictMono.monotone.map_max, EReal.coe_mul]⟩

/-- The integer sum of products, at extended reals. -/
theorem coe_sum {ι : Type*} (s : Finset ι) (f : ι → ℝ) : ((∑ k ∈ s, f k : ℝ) : EReal) = ∑ k ∈ s, (f k : EReal) :=
  map_sum (⟨⟨fun r : ℝ => (r : EReal), rfl⟩, EReal.coe_add⟩ : ℝ →+ EReal) f s

/-- One entry of the second layer before the relu. The kernel takes the integer product of the levels times the joint
    scale, and adds the half step of the adjacency through the column's sum of levels; the reference sums the dequantised
    adjacency times the levels, scales by the column and adds the bias. -/
theorem entry_eq {K : Nat} (a q : Fin K → ℤ) (x : Fin K → EReal) (mx b : EReal)
    (hq : ∀ k, q k = quant (x k) (scaleOf mx)) :
    (((∑ k, a k * q k : ℤ) : ℝ) : EReal)
          * (Named.named (F := Ideal) Cert.KernelIdeal.κ "inv_qscale" (φ := .f32) 0x35535DD3#32 * scaleOf mx)
        + (b + (Ideal.ofBits .f32 0x3F000000#32 * ∑ k, (((q k : ℤ) : ℝ) : EReal))
          * (Named.named (F := Ideal) Cert.KernelIdeal.κ "inv_qscale" (φ := .f32) 0x35535DD3#32 * scaleOf mx))
      = (∑ k, Ideal.div ((((a k : ℤ) : ℝ) : EReal) + Ideal.ofBits .f32 0x3F000000#32) (Ideal.ofBits .f32 0x499B0780#32)
          * (((q k : ℤ) : ℝ) : EReal)) * scaleOf mx + b := by
  have hd : ∀ k, Ideal.div ((((a k : ℤ) : ℝ) : EReal) + ((1 / 2 : ℝ) : EReal)) ((1270000 : ℝ) : EReal) * (((q k : ℤ) : ℝ) : EReal)
      = ((((a k : ℝ) + 1 / 2) * (1 / 1270000) * (q k : ℝ) : ℝ) : EReal) := by
    intro k
    rw [Ideal.div_coe (by norm_num), ← EReal.coe_add, ← EReal.coe_mul, ← EReal.coe_mul]
  rw [named_inv_qscale, lit_half, lit_qscale]
  simp only [hd]
  rw [← coe_sum, ← coe_sum, ← EReal.coe_mul]
  rcases scaleOf_cases mx with h | ⟨s, h⟩
  · have h0 : ∀ k, q k = 0 := fun k => by rw [hq k, h, quant_top]
    simp [h0]
  · rw [h, ← EReal.coe_mul, ← EReal.coe_mul, ← EReal.coe_mul, ← EReal.coe_mul, add_comm b, ← add_assoc, ← EReal.coe_add]
    congr 2
    push_cast
    rw [Finset.sum_mul, Finset.mul_sum, Finset.sum_mul, Finset.sum_mul, ← Finset.sum_add_distrib]
    refine Finset.sum_congr rfl fun k _ => ?_
    ring

/-- The mean over the 128 features: a product with one over 128 for a division by 128. -/
theorem mean_eq (x : EReal) : x * Ideal.ofBits .f32 0x3C000000#32 = Ideal.div x (Ideal.ofBits .f32 0x43000000#32) := by
  rw [lit_inv128, lit_128, Ideal.div_coe (by norm_num)]

end Cert.Gcn

end
-- ==== Proof.Columns.lean ====
/- Reductions of a matrix along one axis and the integer matrix product, at an entry, for matrices of any size. -/
module

public import proofs.«01_k».proof.Proof.Scalars
public import Idealize.ShloMosaic.Lib.Pointwise
public import Idealize.ShloMosaic.Lib.IntMxu

@[expose] public section

noncomputable section

namespace Cert.Gcn

open Idealize.ShloMosaic

/-- The kernel's maximum down a column. -/
theorem column_max {n m : Nat} (v : FVec Ideal ⟨2, ![n, m]⟩ .f32) (acc : BitVec 32)
    (h : Shape.Reduces ⟨2, ![n, m]⟩ [0] ⟨1, ![m]⟩) (hφ : FKind.Formats .f32) (hacc : acc = FKind.maximumf.neutral .f32 hφ) (k : Fin m) :
    multiReduction .maximumf [0] ⟨1, ![m]⟩ v acc h hφ hacc (ix1 k)
      = Finset.univ.fold max (Ideal.ofBits .f32 acc) fun r : Fin n => v (ix2 r k) := by
  rw [multiReduction_maximumf_eq_fold, h.fold_fiber_r2_a0]; rfl

/-- The kernel's sum down a column. -/
theorem column_sum {n m : Nat} (v : FVec Ideal ⟨2, ![n, m]⟩ .f32) (acc : BitVec 32)
    (h : Shape.Reduces ⟨2, ![n, m]⟩ [0] ⟨1, ![m]⟩) (hφ : FKind.Formats .f32) (hacc : acc = FKind.add.neutral .f32 hφ) (k : Fin m) :
    multiReduction .add [0] ⟨1, ![m]⟩ v acc h hφ hacc (ix1 k) = ∑ r : Fin n, v (ix2 r k) := by
  rw [multiReduction_add_apply, Ideal.reduceAdd_def, Ideal.reduceAdd_r2_a0]; rfl

/-- The host's maximum down a column. -/
theorem host_column_max {n m : Nat} {u : Shape} (v : FVec Ideal ⟨2, ![n, m]⟩ .f32) (init : FVec Ideal u .f32)
    (h : Shape.ReducesTo ⟨2, ![n, m]⟩ [0] ⟨1, ![m]⟩) (hu : 0 < u.numel) (k : Fin m) :
    Host.reduce FloatOps.maximumf v init h hu (ix1 k)
      = Finset.univ.fold max (init (Shape.Idx.first hu)) fun r : Fin n => v (ix2 r k) := by
  rw [Host.reduce_eq_fold, h.fold_fiber_r2_a0]; rfl

/-- The host's sum along a row. -/
theorem host_row_sum {n m : Nat} {u : Shape} (v : FVec Ideal ⟨2, ![n, m]⟩ .f32) (init : FVec Ideal u .f32)
    (h : Shape.ReducesTo ⟨2, ![n, m]⟩ [1] ⟨1, ![n]⟩) (hu : 0 < u.numel) (r : Fin n) :
    Host.reduceAdd v init h hu (ix1 r) = init (Shape.Idx.first hu) + ∑ k : Fin m, v (ix2 r k) := by
  rw [Host.reduceAdd_apply, Ideal.hostReduceAdd_def, Ideal.hostReduceAdd_r2_a1]; rfl

/-- The integer matrix product at an entry, as a sum along the contracted axis of extended reals. -/
theorem dotI8_ideal {sl sr so : Shape} (d : DotDims sl sr so) (l : IVec sl 8) (r : IVec sr 8) (j : so.Idx) :
    (((dotI8 d l r j : ℤ) : ℝ) : EReal)
      = Ideal.matmul d (fun i => (((l i).toInt : ℝ) : EReal)) (fun i => (((r i).toInt : ℝ) : EReal)) (fun _ => 0) j := by
  unfold dotI8 Ideal.matmul
  rw [zero_add]
  push_cast
  rw [coe_sum]
  exact Finset.sum_congr rfl fun k _ => EReal.coe_mul _ _

/-- The magnitudes of the products of an integer matrix product at an entry, added up, as extended reals. -/
theorem absDotI8_ideal {sl sr so : Shape} (d : DotDims sl sr so) (l : IVec sl 8) (r : IVec sr 8) (j : so.Idx) :
    (((absDotI8 d l r j : ℕ) : ℝ) : EReal)
      = Ideal.matmul d (fun i => ((((l i).toInt.natAbs : ℕ) : ℝ) : EReal)) (fun i => ((((r i).toInt.natAbs : ℕ) : ℝ) : EReal))
          (fun _ => 0) j := by
  unfold absDotI8 Ideal.matmul
  rw [zero_add, Nat.cast_sum, coe_sum]
  refine Finset.sum_congr rfl fun k _ => ?_
  rw [Int.natAbs_mul, Nat.cast_mul, EReal.coe_mul]

end Cert.Gcn

end
-- ==== Proof.Reference.lean ====
/- The reference's result, stage by stage, at an entry. -/
module

public import proofs.«01_k».proof.Proof.Columns
public import proofs.«01_k».proof.Proof.Gen.ReferenceIdeal.Run
public import proofs.«01_k».proof.Pre_counted
public import proofs.«01_k».proof.Proof.Gen.Pre_counted

@[expose] public section

set_option maxRecDepth 16384

noncomputable section

namespace Cert.Gcn

open Idealize.ShloMosaic Idealize.ShloMosaic.TcCoe
open Cert.ReferenceIdeal Cert.ReferenceIdeal.Gen

/-- The second layer's features, as the reference computes them. -/
def refFeat (x : FVec Ideal S10000x128 .f32) (adj : FVec Ideal S10000x10000 .f32) (W1 : FVec Ideal S128x128 .f32)
    (b1 : FVec Ideal S128 .f32) (W2 : FVec Ideal S128x128 .f32) : FVec Ideal S10000x128 .f32 :=
  Host.dotGeneral dot_S10000x128_S128x128_S10000x128_1_0_0_1_n_n none
    (maximumf
      (addf
        (Host.dotGeneral dot_S10000x10000_S10000x128_S10000x128_1_0_0_1_n_n none adj
          (Host.dotGeneral dot_S10000x128_S128x128_S10000x128_1_0_0_1_n_n none x W1))
        (broadcastInDim S10000x128 ![0, 1] bcast_S1x128_S10000x128_0_1 (broadcastInDim S1x128 ![1] bcast_S128_S1x128_1 b1)))
      (broadcastInDim S10000x128 ![] bcast_S_S10000x128 (constant S_ .f32 0x00000000#32)))
    W2

/-- The columns' scales, as the reference computes them. -/
def refScale (s : FVec Ideal S10000x128 .f32) : FVec Ideal S128 .f32 :=
  Host.divf
    (maximumf (Host.reduce FloatOps.maximumf (Host.absf s) (constant S_ .f32 0xFF800000#32) reducesTo_S10000x128_S128_d0 h_S_)
      (broadcastInDim S128 ![] bcast_S_S128 (constant S_ .f32 0x0DA24260#32)))
    (broadcastInDim S128 ![] bcast_S_S128 (constant S_ .f32 0x42FE0000#32))

/-- A row of scales, repeated down the rows. -/
def overRows (sc : FVec Ideal S128 .f32) : FVec Ideal S10000x128 .f32 :=
  broadcastInDim S10000x128 ![0, 1] bcast_S1x128_S10000x128_0_1 (broadcastInDim S1x128 ![1] bcast_S128_S1x128_1 sc)

/-- The levels of the second layer's features, as the reference computes them. -/
def refLevels (t : FVec Ideal S10000x128 .f32) : IVec S10000x128 32 :=
  minsi (broadcastInDim S10000x128 ![] bcast_S_S10000x128 (id (constantI S_ 32 127#32)))
    (maxsi (broadcastInDim S10000x128 ![] bcast_S_S10000x128 (id (constantI S_ 32 4294967168#32)))
      (fptosi 32
        (addf t
          (id (select (cmpf .oge t (broadcastInDim S10000x128 ![] bcast_S_S10000x128 (constant S_ .f32 0x00000000#32)))
            (broadcastInDim S10000x128 ![] bcast_S_S10000x128 (constant S_ .f32 0x3F000000#32))
            (broadcastInDim S10000x128 ![] bcast_S_S10000x128 (constant S_ .f32 0xBF000000#32)))))))

/-- The levels of the adjacency, as the reference computes them. -/
def refAdj (adj : FVec Ideal S10000x10000 .f32) : IVec S10000x10000 32 :=
  minsi (broadcastInDim S10000x10000 ![] bcast_S_S10000x10000 (id (constantI S_ 32 127#32)))
    (maxsi (broadcastInDim S10000x10000 ![] bcast_S_S10000x10000 (id (constantI S_ 32 4294967168#32)))
      (fptosi 32 (mulf adj (broadcastInDim S10000x10000 ![] bcast_S_S10000x10000 (constant S_ .f32 0x499B0780#32)))))

/-- The second layer before its relu, as the reference computes it. -/
def refLayer (a : IVec S10000x10000 32) (q : IVec S10000x128 32) (sc b2 : FVec Ideal S128 .f32) : FVec Ideal S10000x128 .f32 :=
  addf
    (mulf
      (Host.dotGeneral dot_S10000x10000_S10000x128_S10000x128_1_0_0_1_n_n none
        (Host.divf
          (addf (sitofp .f32 a) (broadcastInDim S10000x10000 ![] bcast_S_S10000x10000 (constant S_ .f32 0x3F000000#32)))
          (broadcastInDim S10000x10000 ![] bcast_S_S10000x10000 (constant S_ .f32 0x499B0780#32)))
        (sitofp .f32 q))
      (overRows sc))
    (overRows b2)

/-- The means of the rows and the final layer, as the reference computes them. -/
def refOut (y : FVec Ideal S10000x128 .f32) (aux : FVec Ideal S10000 .f32) (fw : FVec Ideal S1x10000 .f32)
    (fb : FVec Ideal S1 .f32) : FVec Ideal S1 .f32 :=
  addf
    (Host.dotGeneral dot_S10000_S10000x1_S1_0_0_n_1_n_n none
      (maximumf
        (mulf
          (Host.divf
            (Host.reduceAdd (maximumf y (broadcastInDim S10000x128 ![] bcast_S_S10000x128 (constant S_ .f32 0x00000000#32)))
              (constant S_ .f32 0x00000000#32) reducesTo_S10000x128_S10000_d1 h_S_)
            (broadcastInDim S10000 ![] bcast_S_S10000 (constant S_ .f32 0x43000000#32)))
          aux)
        (broadcastInDim S10000 ![] bcast_S_S10000 (constant S_ .f32 0x00000000#32)))
      (transpose S10000x1 [1, 0] fw transposes_S1x10000_S10000x1_1_0))
    fb

/-- The reference's result is the composition of the stages. -/
theorem result_stages (m : (ℓ : Loc nD τ sig) → Buf (Elt Ideal) ℓ) (c : Dev nD) :
    Value.res_main_v48 m c
      = refOut
          (refLayer (refAdj (m ((c.tc : Thread nD τ).loc main_arg1)))
            (refLevels (Host.divf
              (refFeat (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)))
              (overRows (refScale (refFeat (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)))))))
            (refScale (refFeat (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))))
            (m ((c.tc : Thread nD τ).loc main_arg5)))
          (m ((c.tc : Thread nD τ).loc main_arg6)) (m ((c.tc : Thread nD τ).loc main_arg7))
          (m ((c.tc : Thread nD τ).loc main_arg8)) := by
  unfold Value.res_main_v48 refOut refLayer refAdj refLevels overRows refScale refFeat
  rfl

/-- The precondition's mask is the comparison of the products' magnitudes, added up, with the bound. -/
theorem counted_stages (x : FVec Ideal S10000x128 .f32) (adj : FVec Ideal S10000x10000 .f32) (W1 : FVec Ideal S128x128 .f32)
    (b1 : FVec Ideal S128 .f32) (W2 : FVec Ideal S128x128 .f32) (b2 : FVec Ideal S128 .f32) (aux : FVec Ideal S10000 .f32)
    (fw : FVec Ideal S1x10000 .f32) (fb : FVec Ideal S1 .f32) :
    Cert.Pre_counted.fn (F := Ideal) x adj W1 b1 W2 b2 aux fw fb
      = cmpf .ole
          (Host.dotGeneral dot_S10000x10000_S10000x128_S10000x128_1_0_0_1_n_n none
            (Host.absf (sitofp (F := Ideal) .f32 (refAdj adj)))
            (Host.absf (sitofp (F := Ideal) .f32 (refLevels (Host.divf (refFeat x adj W1 b1 W2) (overRows (refScale (refFeat x adj W1 b1 W2))))))))
          (broadcastInDim S10000x128 ![] bcast_S_S10000x128 (constant (F := Ideal) S_ .f32 0x4C800000#32)) := by
  unfold Cert.Pre_counted.fn Cert.Pre_counted.fn_part1 refAdj refLevels overRows refScale refFeat
  rfl

end Cert.Gcn

end
-- ==== Proof.RefEntries.lean ====
/- The stages of the reference, read at an entry. -/
module

public import proofs.«01_k».proof.Proof.Reference

@[expose] public section

set_option maxRecDepth 16384

noncomputable section

namespace Cert.Gcn

open Idealize.ShloMosaic Idealize.ShloMosaic.TcCoe
open Cert.ReferenceIdeal Cert.ReferenceIdeal.Gen

/-- The largest magnitude in a column. -/
def colMax {K : Nat} (x : Fin K → EReal) : EReal :=
  Finset.univ.fold max (Ideal.ofBits .f32 0xFF800000#32) fun r => max (x r) (-(x r))

/-- An entry of the second layer's features. -/
theorem refFeat_apply (x : FVec Ideal S10000x128 .f32) (adj : FVec Ideal S10000x10000 .f32) (W1 : FVec Ideal S128x128 .f32)
    (b1 : FVec Ideal S128 .f32) (W2 : FVec Ideal S128x128 .f32) (r : Fin 10000) (k : Fin 128) :
    refFeat x adj W1 b1 W2 (ix2 r k)
      = ∑ h : Fin 128, max (∑ i : Fin 10000, adj (ix2 r i) * (∑ j : Fin 128, x (ix2 i j) * W1 (ix2 j h)) + b1 (ix1 h)) 0
          * W2 (ix2 h k) := by
  pointwise [refFeat]

/-- A row of scales repeated down the rows, at an entry. -/
theorem overRows_apply (sc : FVec Ideal S128 .f32) (r : Fin 10000) (k : Fin 128) : overRows sc (ix2 r k) = sc (ix1 k) := by
  pointwise [overRows]

/-- A scale from the largest magnitudes. -/
theorem scale_apply (m : FVec Ideal S128 .f32) (k : Fin 128) :
    Host.divf (maximumf m (broadcastInDim S128 ![] bcast_S_S128 (constant (F := Ideal) S_ .f32 0x0DA24260#32)))
      (broadcastInDim S128 ![] bcast_S_S128 (constant (F := Ideal) S_ .f32 0x42FE0000#32)) (ix1 k) = scaleOf (m (ix1 k)) := by
  pointwise [scaleOf]

/-- A column's scale. -/
theorem refScale_apply (s : FVec Ideal S10000x128 .f32) (k : Fin 128) :
    refScale s (ix1 k) = scaleOf (colMax fun r : Fin 10000 => s (ix2 r k)) := by
  have h := host_column_max (Host.absf s) (constant (F := Ideal) S_ .f32 0xFF800000#32) reducesTo_S10000x128_S128_d0 h_S_ k
  exact (scale_apply _ k).trans (congrArg scaleOf h)

/-- A level of the second layer's features. -/
theorem refLevels_apply (t : FVec Ideal S10000x128 .f32) (r : Fin 10000) (k : Fin 128) :
    (refLevels t (ix2 r k)).toInt = level (nudge (t (ix2 r k))) := by
  rw [← toInt_clip, nudge]
  pointwise [refLevels, id]
  rfl

/-- A level of the adjacency. -/
theorem refAdj_apply (adj : FVec Ideal S10000x10000 .f32) (r k : Fin 10000) :
    (refAdj adj (ix2 r k)).toInt = level (adj (ix2 r k) * Ideal.ofBits .f32 0x499B0780#32) := by
  rw [← toInt_clip]
  pointwise [refAdj, id]
  rfl

/-- An entry of the second layer before its relu. -/
theorem refLayer_apply (a : IVec S10000x10000 32) (q : IVec S10000x128 32) (sc b2 : FVec Ideal S128 .f32) (r : Fin 10000) (k : Fin 128) :
    refLayer a q sc b2 (ix2 r k)
      = (∑ i : Fin 10000, Ideal.div ((((a (ix2 r i)).toInt : ℝ) : EReal) + Ideal.ofBits .f32 0x3F000000#32) (Ideal.ofBits .f32 0x499B0780#32)
          * (((q (ix2 i k)).toInt : ℝ) : EReal)) * sc (ix1 k) + b2 (ix1 k) := by
  pointwise [refLayer, overRows]
  rfl

/-- The result. -/
theorem refOut_apply (y : FVec Ideal S10000x128 .f32) (aux : FVec Ideal S10000 .f32) (fw : FVec Ideal S1x10000 .f32)
    (fb : FVec Ideal S1 .f32) :
    refOut y aux fw fb (ix1 0)
      = (∑ r : Fin 10000, max (Ideal.div (∑ k : Fin 128, max (y (ix2 r k)) 0) (Ideal.ofBits .f32 0x43000000#32) * aux (ix1 r)) 0
          * fw (ix2 0 r)) + fb (ix1 0) := by
  pointwise [refOut]

/-- The product of two integers' magnitudes, as extended reals. -/
theorem abs_product (a b : BitVec 32) :
    FloatOps.absf (F := Ideal) (φ := .f32) (FloatOps.sitofp (F := Ideal) .f32 a)
      * FloatOps.absf (F := Ideal) (φ := .f32) (FloatOps.sitofp (F := Ideal) .f32 b)
      = (((a.toInt * b.toInt).natAbs : ℝ) : EReal) := by
  have h : ∀ w : BitVec 32, FloatOps.absf (F := Ideal) (φ := .f32) (FloatOps.sitofp (F := Ideal) .f32 w) = ((|(w.toInt : ℝ)| : ℝ) : EReal) := by
    intro w
    show max ((w.toInt : ℝ) : EReal) (-((w.toInt : ℝ) : EReal)) = _
    rw [← EReal.coe_neg, ← EReal.coe_strictMono.monotone.map_max]; rfl
  rw [h, h, ← EReal.coe_mul, ← abs_mul, Nat.cast_natAbs]
  push_cast
  rfl

/-- Under the precondition the magnitudes of the products of levels add up to at most 2 to the 26th, for every row and
    column. -/
theorem counted_apply (x : FVec Ideal S10000x128 .f32) (adj : FVec Ideal S10000x10000 .f32) (W1 : FVec Ideal S128x128 .f32)
    (b1 : FVec Ideal S128 .f32) (W2 : FVec Ideal S128x128 .f32) (b2 : FVec Ideal S128 .f32) (aux : FVec Ideal S10000 .f32)
    (fw : FVec Ideal S1x10000 .f32) (fb : FVec Ideal S1 .f32)
    (h : Cert.Pre_counted.fn (F := Ideal) x adj W1 b1 W2 b2 aux fw fb = fun _ => 1#1) (r : Fin 10000) (k : Fin 128) :
    ∑ i : Fin 10000, (level (adj (ix2 r i) * Ideal.ofBits .f32 0x499B0780#32)
        * quant (refFeat x adj W1 b1 W2 (ix2 i k)) (scaleOf (colMax fun r : Fin 10000 => refFeat x adj W1 b1 W2 (ix2 r k)))).natAbs
      ≤ 67108864 := by
  rw [counted_stages] at h
  generalize hs : refFeat x adj W1 b1 W2 = s at h ⊢
  have h1 := congrFun h (ix2 r k)
  have hA : ∀ i : Fin 10000, (refAdj adj (ix2 r i)).toInt = level (adj (ix2 r i) * Ideal.ofBits .f32 0x499B0780#32) :=
    fun i => refAdj_apply adj r i
  have hQ : ∀ i : Fin 10000, (refLevels (Host.divf s (overRows (refScale s))) (ix2 i k)).toInt
      = quant (s (ix2 i k)) (scaleOf (colMax fun r : Fin 10000 => s (ix2 r k))) := by
    intro i
    rw [refLevels_apply]
    show level (nudge (Ideal.div (s (ix2 i k)) (overRows (refScale s) (ix2 i k)))) = _
    rw [overRows_apply, refScale_apply, quant]
  generalize refAdj adj = A at h1 hA
  generalize refLevels (Host.divf s (overRows (refScale s))) = Q at h1 hQ
  pointwise at h1
  have hb : ∑ i : Fin 10000, FloatOps.absf (F := Ideal) (φ := .f32) (FloatOps.sitofp (F := Ideal) .f32 (A (ix2 r i)))
      * FloatOps.absf (F := Ideal) (φ := .f32) (FloatOps.sitofp (F := Ideal) .f32 (Q (ix2 i k))) ≤ Ideal.ofBits .f32 0x4C800000#32 := by
    by_contra hn
    rw [decide_eq_false hn] at h1
    exact absurd h1 (by decide)
  have ht : ∀ i : Fin 10000, FloatOps.absf (F := Ideal) (φ := .f32) (FloatOps.sitofp (F := Ideal) .f32 (A (ix2 r i)))
      * FloatOps.absf (F := Ideal) (φ := .f32) (FloatOps.sitofp (F := Ideal) .f32 (Q (ix2 i k)))
      = ((((level (adj (ix2 r i) * Ideal.ofBits .f32 0x499B0780#32)
        * quant (s (ix2 i k)) (scaleOf (colMax fun r : Fin 10000 => s (ix2 r k)))).natAbs : ℝ)) : EReal) := by
    intro i
    rw [← hA, ← hQ]
    exact abs_product _ _
  rw [Finset.sum_congr rfl fun i _ => ht i, ← coe_sum, lit_bound, EReal.coe_le_coe_iff] at hb
  exact_mod_cast hb

end Cert.Gcn

end
-- ==== Proof.KerEntries.lean ====
/- What the kernel's two passes compute, read at an entry. -/
module

public import proofs.«01_k».proof.Proof.RefEntries
public import proofs.«01_k».proof.Proof.Gen.KernelIdeal.Skeleton

@[expose] public section

set_option maxRecDepth 16384

noncomputable section

namespace Cert.Gcn

open Idealize.ShloMosaic Idealize.ShloMosaic.TcCoe
open Cert.KernelIdeal Cert.KernelIdeal.Gen

/-- The first layer's support. -/
theorem support_apply (x : FVec Ideal S10000x128 .f32) (w : FVec Ideal S128x128 .f32) (r : Fin 10000) (k : Fin 128) :
    k0_pay1 (F := Ideal) x w (ix2 r k) = ∑ j : Fin 128, x (ix2 r j) * w (ix2 j k) := by
  pointwise [k0_pay1]

/-- An entry of a block of the second layer's features. -/
theorem feat_apply (x : FVec Ideal S400x10000 .f32) (s : FVec Ideal S10000x128 .bf16) (b : FVec Ideal S1x128 .f32)
    (w : FVec Ideal S128x128 .f32) (r : Fin 400) (k : Fin 128) :
    k0_pay2 (F := Ideal) x s b w (ix2 r k)
      = ∑ h : Fin 128, max (∑ i : Fin 10000, x (ix2 r i) * s (ix2 i h) + b (ix2 0 h)) 0 * w (ix2 h k) := by
  pointwise [k0_pay2]

/-- An entry of a block of the adjacency's levels. -/
theorem adj_apply (x : FVec Ideal S400x10000 .f32) (r : Fin 400) (k : Fin 10000) :
    k0_pay3 (F := Ideal) x (ix2 r k) = Ideal.fptosi 8 (x (ix2 r k) * Ideal.ofBits .f32 0x499B0780#32) := by
  pointwise [k0_pay3]
  rfl

/-- The second layer's features as the second pass reads them. -/
theorem widen_eq (x : FVec Ideal S10000x128 .bf16) : k1_pay2 (F := Ideal) x = (fun i => x i : FVec Ideal S10000x128 .f32) := by
  funext i
  idx_vars i
  pointwise [k1_pay2]

/-- A scale from the largest magnitudes, as the kernel forms it. -/
theorem kernel_scale_apply (m : FVec Ideal S128 .f32) (k : Fin 128) :
    mulf (maximumf (shapeCast S1x128 m shapeCasts_S128_S1x128) (broadcast S1x128 (Scalar.ofBits (F := Ideal) .f32 0x0DA24260#32)))
      (broadcast S1x128 (Named.named (F := Ideal) κ "inv127" (φ := .f32) 0x3C010204#32)) (ix2 0 k) = scaleOf (m (ix1 k)) := by
  rw [← scale_kernel]
  pointwise

/-- A column's scale. -/
theorem scale_entry (x : FVec Ideal S10000x128 .bf16) (k : Fin 128) :
    k1_pay3 (F := Ideal) x (ix2 0 k) = scaleOf (colMax fun r : Fin 10000 => x (ix2 r k)) := by
  have h := column_max (absf (k1_pay2 (F := Ideal) x)) 0xFF800000#32 reduces_S10000x128_S128 (.inl rfl) rfl k
  refine (kernel_scale_apply _ k).trans (congrArg scaleOf (h.trans ?_))
  rw [widen_eq]; rfl

/-- The levels from the features and the scales. -/
theorem levels_apply (t : FVec Ideal S10000x128 .f32) (s : FVec Ideal S1x128 .f32) (r : Fin 10000) (k : Fin 128) :
    (fptosi 8
      (addf (divf t (broadcastTo S10000x128 s broadcasts_S1x128_S10000x128))
        (select (cmpf .oge (divf t (broadcastTo S10000x128 s broadcasts_S1x128_S10000x128)) (broadcast S10000x128 (Scalar.ofBits (F := Ideal) .f32 0x00000000#32)))
          (broadcast S10000x128 (Scalar.ofBits (F := Ideal) .f32 0x3F000000#32))
          (broadcast S10000x128 (Scalar.ofBits (F := Ideal) .f32 0xBF000000#32)))) (ix2 r k)).toInt
      = quant (t (ix2 r k)) (s (ix2 0 k)) := by
  rw [quant, ← toInt_fptosi8, nudge]
  pointwise
  rfl

/-- A level of the second layer's features. -/
theorem level_entry (x : FVec Ideal S10000x128 .bf16) (r : Fin 10000) (k : Fin 128) :
    (k1_pay4 (F := Ideal) x (ix2 r k)).toInt = quant (x (ix2 r k)) (scaleOf (colMax fun r : Fin 10000 => x (ix2 r k))) := by
  have h := levels_apply (k1_pay2 (F := Ideal) x) (k1_pay3 (F := Ideal) x) r k
  rw [scale_entry, widen_eq] at h
  rw [← h, ← widen_eq]; rfl

/-- A level as the second pass keeps it. -/
theorem kept_level_entry (x : FVec Ideal S10000x128 .bf16) (r : Fin 10000) (k : Fin 128) :
    (k1_pay5 (F := Ideal) x (ix2 r k)).toInt = quant (x (ix2 r k)) (scaleOf (colMax fun r : Fin 10000 => x (ix2 r k))) := by
  rw [← level_entry]
  have h : ∀ v : IVec S10000x128 8, shapeCast S10000x128 v shapeCasts_S10000x128_S10000x128 (ix2 r k) = v (ix2 r k) := by
    intro v; pointwise
  exact congrArg BitVec.toInt (h (k1_pay4 (F := Ideal) x))

/-- The joint scale of a column. -/
theorem mult_entry (x : FVec Ideal S10000x128 .bf16) (k : Fin 128) :
    k1_pay6 (F := Ideal) x (ix2 0 k)
      = Named.named (F := Ideal) κ "inv_qscale" (φ := .f32) 0x35535DD3#32 * scaleOf (colMax fun r : Fin 10000 => x (ix2 r k)) := by
  rw [← scale_entry]; rfl

/-- The joint scale of a column as the second pass keeps it. -/
theorem kept_mult_entry (x : FVec Ideal S10000x128 .bf16) (k : Fin 128) :
    k1_pay7 (F := Ideal) x (ix2 0 k)
      = Named.named (F := Ideal) κ "inv_qscale" (φ := .f32) 0x35535DD3#32 * scaleOf (colMax fun r : Fin 10000 => x (ix2 r k)) := by
  rw [← mult_entry]
  have h : ∀ v : FVec Ideal S1x128 .f32, shapeCast S1x128 v shapeCasts_S1x128_S1x128 (ix2 0 k) = v (ix2 0 k) := by
    intro v; pointwise
  exact h (k1_pay6 (F := Ideal) x)

/-- The bias from the column sums and the joint scale. -/
theorem bias_apply (c : FVec Ideal S128 .f32) (mu : FVec Ideal S1x128 .f32) (b : FVec Ideal S1x128 .f32) (k : Fin 128) :
    shapeCast S1x128
      (addf (shapeCast S1x128 b shapeCasts_S1x128_S1x128)
        (mulf (mulf (broadcast S1x128 (Scalar.ofBits (F := Ideal) .f32 0x3F000000#32)) (shapeCast S1x128 c shapeCasts_S128_S1x128)) mu))
      shapeCasts_S1x128_S1x128 (ix2 0 k)
      = b (ix2 0 k) + (Ideal.ofBits .f32 0x3F000000#32 * c (ix1 k)) * mu (ix2 0 k) := by
  pointwise

/-- The bias of a column as the second pass keeps it. -/
theorem kept_bias_entry (x : FVec Ideal S10000x128 .bf16) (b : FVec Ideal S1x128 .f32) (k : Fin 128) :
    k1_pay8 (F := Ideal) x b (ix2 0 k)
      = b (ix2 0 k) + (Ideal.ofBits .f32 0x3F000000#32
          * ∑ r : Fin 10000, ((quant (x (ix2 r k)) (scaleOf (colMax fun r : Fin 10000 => x (ix2 r k))) : ℝ) : EReal))
          * (Named.named (F := Ideal) κ "inv_qscale" (φ := .f32) 0x35535DD3#32 * scaleOf (colMax fun r : Fin 10000 => x (ix2 r k))) := by
  have h := column_sum (sitofp (F := Ideal) .f32 (k1_pay4 (F := Ideal) x)) 0x00000000#32 reduces_S10000x128_S128 (.inl rfl) rfl k
  have hl : ∀ r : Fin 10000, sitofp (F := Ideal) .f32 (k1_pay4 (F := Ideal) x) (ix2 r k)
      = ((quant (x (ix2 r k)) (scaleOf (colMax fun r : Fin 10000 => x (ix2 r k))) : ℝ) : EReal) := by
    intro r
    rw [← level_entry]; rfl
  rw [Finset.sum_congr rfl fun r _ => hl r] at h
  rw [← h, ← mult_entry]
  exact bias_apply _ (k1_pay6 (F := Ideal) x) b k

/-- The integer product at an entry of a block, under the bound on the magnitudes. -/
theorem product_entry (a : IVec S400x10000 8) (q : IVec S10000x128 8) (x : Fin 400) (k : Fin 128)
    (hb : ∑ i : Fin 10000, ((a (ix2 x i)).toInt * (q (ix2 i k)).toInt).natAbs ≤ 67108864) :
    (matmulI8 IntMxuNumerics.v5e dot_S400x10000_S10000x128_S400x128_1_0_0_1_n_n a q (constantI S400x128 32 0#32) (ix2 x k)).toInt
      = ∑ i : Fin 10000, (a (ix2 x i)).toInt * (q (ix2 i k)).toInt := by
  have hd := dotI8_ideal dot_S400x10000_S10000x128_S400x128_1_0_0_1_n_n a q (ix2 x k)
  have ha := absDotI8_ideal dot_S400x10000_S10000x128_S400x128_1_0_0_1_n_n a q (ix2 x k)
  pointwise at hd
  pointwise at ha
  simp only [← EReal.coe_mul] at hd ha
  rw [← coe_sum, EReal.coe_eq_coe_iff] at hd ha
  have hd' : dotI8 dot_S400x10000_S10000x128_S400x128_1_0_0_1_n_n a q (ix2 x k) = ∑ i : Fin 10000, (a (ix2 x i)).toInt * (q (ix2 i k)).toInt := by
    exact_mod_cast hd
  have ha' : absDotI8 dot_S400x10000_S10000x128_S400x128_1_0_0_1_n_n a q (ix2 x k)
      = ∑ i : Fin 10000, (a (ix2 x i)).toInt.natAbs * (q (ix2 i k)).toInt.natAbs := by
    exact_mod_cast ha
  rw [matmulI8_toInt _ _ _ _ _ _ rfl ?_, hd']
  rw [ha']
  simp only [Int.natAbs_mul] at hb
  exact hb.trans (by decide)

/-- What a point of the second pass adds, under the bound on the magnitudes. -/
theorem block_entry (a : IVec S400x10000 8) (q : IVec S10000x128 8) (mu bc : FVec Ideal S1x128 .f32) (aux : FVec Ideal S1x2x400 .f32)
    (hb : ∀ (x : Fin 400) (k : Fin 128), ∑ i : Fin 10000, ((a (ix2 x i)).toInt * (q (ix2 i k)).toInt).natAbs ≤ 67108864) :
    k1_pay11 (F := Ideal) a q mu bc aux
      = ∑ x : Fin 400, max (Ideal.div (∑ k : Fin 128,
            max ((((∑ i : Fin 10000, (a (ix2 x i)).toInt * (q (ix2 i k)).toInt : ℤ) : ℝ) : EReal) * mu (ix2 0 k) + bc (ix2 0 k)) 0)
              (Ideal.ofBits .f32 0x43000000#32) * aux (ix3 0 0 x)) 0 * aux (ix3 0 1 x) := by
  have hp : ∀ (x : Fin 400) (k : Fin 128),
      FloatOps.sitofp (F := Ideal) .f32
          (matmulI8 IntMxuNumerics.v5e dot_S400x10000_S10000x128_S400x128_1_0_0_1_n_n a q (constantI S400x128 32 0#32) (ix2 x k))
        = (((∑ i : Fin 10000, (a (ix2 x i)).toInt * (q (ix2 i k)).toInt : ℤ) : ℝ) : EReal) := by
    intro x k
    rw [← product_entry a q x k (hb x k)]; rfl
  pointwise [k1_pay11]
  rw [Fin.sum_univ_one]
  simp only [hp, mean_eq]

/-- A point of the second pass adds its part to what it finds. -/
theorem add_entry (a : FVec Ideal S1x1 .f32) (b : EReal) :
    k1_pay1 (F := Ideal) (k1_pay10 (F := Ideal) a) b (ix2 0 0) = a (ix2 0 0) + b := by
  pointwise [k1_pay1, k1_pay10]

/-- The first point of the second pass starts from the last layer's bias. -/
theorem start_entry (a : FVec Ideal S1x1 .f32) : k1_pay9 (F := Ideal) a (ix2 0 0) = a (ix2 0 0) := by
  pointwise [k1_pay9]

end Cert.Gcn

end
-- ==== Proof.ArraysOne.lean ====
/- What the first pass leaves in its two result arrays. -/
module

public import proofs.«01_k».proof.Proof.KerEntries
public import proofs.«01_k».proof.Proof.PassOne
public import Idealize.ShloMosaic.Lib.Pipeline.ValueKit

@[expose] public section

set_option maxRecDepth 16384

noncomputable section

namespace Cert.Gcn

open Idealize.ShloMosaic Idealize.ShloMosaic.TcCoe Idealize.SL.Sem
open Idealize.ShloMosaic.Pipeline (Dat)
open Cert.KernelIdeal Cert.KernelIdeal.Gen

/-- Which block of its array each window of the first pass has at a point. -/
theorem idx0 : ∀ t : Fin cfg0.N, win0_0.index t = ![0, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- The second layer's features of all rows, from the arrays the first pass reads. -/
def featOf (x : FVec Ideal S10000x128 .f32) (adj : FVec Ideal S10000x10000 .f32) (W1 : FVec Ideal S128x128 .f32)
    (b1 : FVec Ideal S1x128 .f32) (W2 : FVec Ideal S128x128 .f32) : FVec Ideal S10000x128 .bf16 := fun y =>
  ∑ h : Fin 128, max (∑ i : Fin 10000, adj (ix2 (y 0) i) * (∑ j : Fin 128, x (ix2 i j) * W1 (ix2 j h)) + b1 (ix2 0 h)) 0
    * W2 (ix2 h (y 1))

/-- The levels of the whole adjacency. -/
def adjOf (adj : FVec Ideal S10000x10000 .f32) : IVec S10000x10000 8 := fun y =>
  Ideal.fptosi 8 (adj y * Ideal.ofBits .f32 0x499B0780#32)

variable (W : Dev nD → Valuation τ sig (Elt Ideal))

/-- The features' block at a point. -/
theorem feat_point (c : Dev nD) (t : Fin cfg0.N) (r : Fin 400) (k : Fin 128) :
    k0_pay2 (F := Ideal) (part0 W c 1 t) (keptS1 W c) (part0 W c 3 t) (part0 W c 4 t) (ix2 r k)
      = featOf (W c (Proc.devRef .tc main_arg0)) (W c (Proc.devRef .tc main_arg1)) (W c (Proc.devRef .tc main_arg2))
          (W c (Proc.devRef .tc main_v3)) (W c (Proc.devRef .tc main_arg4)) (((cfg0.win 5).blk t).view.emb (ix2 r k)) := by
  refine (feat_apply _ _ _ _ r k).trans ?_
  simp only [keptS1, support_apply, featOf]
  blk_point [part0, idx0 t, idx0 p0]

/-- After the first pass its first result holds the second layer's features. -/
theorem feat_array (c : Dev nD) : (dat0 W c).arrAt 5 cfg0.N
    = featOf (W c (Proc.devRef .tc main_arg0)) (W c (Proc.devRef .tc main_arg1)) (W c (Proc.devRef .tc main_arg2))
          (W c (Proc.devRef .tc main_v3)) (W c (Proc.devRef .tc main_arg4)) := by
  refine (dat0 W c).arrAt_eq_of_covers 5 _ (by decide +kernel) fun t _ y => ?_
  blk_simp
  dsimp only [dat0]
  idx_vars y
  exact feat_point W c t _ _

/-- The adjacency's block of levels at a point. -/
theorem adj_point (c : Dev nD) (t : Fin cfg0.N) (r : Fin 400) (k : Fin 10000) :
    k0_pay3 (F := Ideal) (part0 W c 1 t) (ix2 r k)
      = adjOf (W c (Proc.devRef .tc main_arg1)) (((cfg0.win 6).blk t).view.emb (ix2 r k)) := by
  refine (adj_apply _ r k).trans ?_
  simp only [adjOf]
  blk_point [part0, idx0 t]

/-- After the first pass its second result holds the adjacency's levels. -/
theorem adj_array (c : Dev nD) : (dat0 W c).arrAt 6 cfg0.N = adjOf (W c (Proc.devRef .tc main_arg1)) := by
  refine (dat0 W c).arrAt_eq_of_covers 6 _ (by decide +kernel) fun t _ y => ?_
  blk_simp
  dsimp only [dat0]
  idx_vars y
  exact adj_point W c t _ _

end Cert.Gcn

end
-- ==== Proof.ArraysTwo.lean ====
/- What the second pass leaves in its result. -/
module

public import proofs.«01_k».proof.Proof.KerEntries
public import proofs.«01_k».proof.Proof.PassTwo
public import Idealize.ShloMosaic.Lib.Pipeline.ValueKit

@[expose] public section

set_option maxRecDepth 16384

noncomputable section

namespace Cert.Gcn

open Idealize.ShloMosaic Idealize.ShloMosaic.TcCoe Idealize.SL.Sem
open Idealize.ShloMosaic.Pipeline (Dat)
open Cert.KernelIdeal Cert.KernelIdeal.Gen

/-- Which block of its array each window of the second pass has at a point. -/
theorem idx1 : ∀ t : Fin cfg1.N, win1_0.index t = ![t.val, 0] ∧ win1_1.index t = ![0, 0] ∧ win1_2.index t = ![0, 0]
    ∧ win1_3.index t = ![t.val, 0, 0] ∧ win1_4.index t = ![0, 0] ∧ win1_5.index t = ![0, 0] :=
  (by decide +kernel : ∀ t : Fin grid1.N, _)

/-- A column's scale, from the features. -/
def scaleAt (s : FVec Ideal S10000x128 .bf16) (k : Fin 128) : EReal := scaleOf (colMax fun r : Fin 10000 => s (ix2 r k))

/-- An entry of the second layer before its relu, the way the kernel forms it. -/
def entryOf (a : IVec S10000x10000 8) (s : FVec Ideal S10000x128 .bf16) (b2 : FVec Ideal S1x128 .f32) (r : Fin 10000) (k : Fin 128) : EReal :=
  (((∑ i : Fin 10000, (a (ix2 r i)).toInt * quant (s (ix2 i k)) (scaleAt s k) : ℤ) : ℝ) : EReal)
      * (Named.named (F := Ideal) κ "inv_qscale" (φ := .f32) 0x35535DD3#32 * scaleAt s k)
    + (b2 (ix2 0 k) + (Ideal.ofBits .f32 0x3F000000#32 * ∑ i : Fin 10000, ((quant (s (ix2 i k)) (scaleAt s k) : ℝ) : EReal))
      * (Named.named (F := Ideal) κ "inv_qscale" (φ := .f32) 0x35535DD3#32 * scaleAt s k))

/-- Row `x` of block `t` among all the rows. -/
def rowAt (t : Fin 25) (x : Fin 400) : Fin 10000 := ⟨t.val * 400 + x.val, by omega⟩

/-- What the rows of block `t` add to the result. -/
def blockSum (a : IVec S10000x10000 8) (s : FVec Ideal S10000x128 .bf16) (b2 : FVec Ideal S1x128 .f32)
    (aux : FVec Ideal S25x2x400 .f32) (t : Fin 25) : EReal :=
  ∑ x : Fin 400, max (Ideal.div (∑ k : Fin 128, max (entryOf a s b2 (rowAt t x) k) 0) (Ideal.ofBits .f32 0x43000000#32)
    * aux (ix3 t 0 x)) 0 * aux (ix3 t 1 x)

/-- The magnitudes of the products of levels add up to at most 2 to the 26th, for every row and column. -/
def Bounded (a : IVec S10000x10000 8) (s : FVec Ideal S10000x128 .bf16) : Prop :=
  ∀ (r : Fin 10000) (k : Fin 128), ∑ i : Fin 10000, ((a (ix2 r i)).toInt * quant (s (ix2 i k)) (scaleAt s k)).natAbs ≤ 67108864

/-- What a block of rows adds, from the blocks the second pass reads. -/
theorem block_sum (A : IVec S10000x10000 8) (s : FVec Ideal S10000x128 .bf16) (b2 : FVec Ideal S1x128 .f32)
    (X : FVec Ideal S25x2x400 .f32) (t : Fin 25) (a : IVec S400x10000 8) (aux : FVec Ideal S1x2x400 .f32)
    (hA : ∀ x i, a (ix2 x i) = A (ix2 (rowAt t x) i)) (hX : ∀ e x, aux (ix3 0 e x) = X (ix3 t e x)) (hb : Bounded A s) :
    k1_pay11 (F := Ideal) a (k1_pay5 (F := Ideal) s) (k1_pay7 (F := Ideal) s) (k1_pay8 (F := Ideal) s b2) aux = blockSum A s b2 X t := by
  refine (block_entry a _ _ _ aux ?_).trans ?_
  · intro x k
    simp only [hA, kept_level_entry]
    exact hb _ k
  · simp only [blockSum, entryOf, scaleAt, hA, hX, kept_level_entry, kept_mult_entry, kept_bias_entry]

variable (W : Dev nD → Valuation τ sig (Elt Ideal)) (c : Dev nD)

/-- The adjacency's levels when the second pass starts. -/
def inA : IVec S10000x10000 8 := W c (Proc.devRef .tc main_v4_1)
/-- The second layer's features when the second pass starts. -/
def inS : FVec Ideal S10000x128 .bf16 := W c (Proc.devRef .tc main_v4_0)
/-- The second layer's bias when the second pass starts. -/
def inB : FVec Ideal S1x128 .f32 := W c (Proc.devRef .tc main_v5)
/-- The row weights when the second pass starts. -/
def inX : FVec Ideal S25x2x400 .f32 := W c (Proc.devRef .tc main_v2)
/-- The last layer's bias when the second pass starts. -/
def inF : FVec Ideal S1x1 .f32 := W c (Proc.devRef .tc main_v6)

/-- The features as the second pass reads them are the whole array. -/
theorem part_feat : part1 W c 1 p1 = inS W c := by
  unfold inS
  blk_ext! [part1, idx1 p1]

/-- The bias as the second pass reads it is the whole array. -/
theorem part_bias : part1 W c 2 p1 = inB W c := by
  unfold inB
  blk_ext! [part1, idx1 p1]

/-- The last layer's bias as the second pass reads it is the whole array. -/
theorem part_last : part1 W c 4 p1 = inF W c := by
  unfold inF
  blk_ext! [part1, idx1 p1]

/-- The adjacency's levels at a point are the rows of its block. -/
theorem part_adj (t : Fin cfg1.N) (x : Fin 400) (i : Fin 10000) :
    (show IVec S400x10000 8 from part1 W c 0 t) (ix2 x i) = inA W c (ix2 (rowAt (t.cast N_1) x) i) := by
  unfold inA
  dsimp only
  blk_ext [part1, idx1 t, rowAt]
  rfl

/-- The row weights at a point are those of its block. -/
theorem part_aux (t : Fin cfg1.N) (e : Fin 2) (x : Fin 400) :
    (show FVec Ideal S1x2x400 .f32 from part1 W c 3 t) (ix3 0 e x) = inX W c (ix3 (t.cast N_1) e x) := by
  unfold inX
  dsimp only
  blk_ext [part1, idx1 t]
  rfl

/-- What a point adds is the sum over its block's rows. -/
theorem point_sum (t : Fin cfg1.N) (hb : Bounded (inA W c) (inS W c)) :
    k1_pay11 (F := Ideal) (part1 W c 0 t) (keptQ W c) (keptMult W c) (keptBias W c) (part1 W c 3 t)
      = blockSum (inA W c) (inS W c) (inB W c) (inX W c) (t.cast N_1) := by
  rw [keptQ, keptMult, keptBias, part_feat, part_bias]
  exact block_sum (inA W c) (inS W c) (inB W c) (inX W c) (t.cast N_1) (part1 W c 0 t) (part1 W c 3 t)
    (part_adj W c t) (part_aux W c t) hb

/-- The running sum after a point. -/
theorem running (hb : Bounded (inA W c) (inS W c)) :
    ∀ (n : ℕ) (h : n < cfg1.N), sumTo W c n h (ix2 0 0)
      = inF W c (ix2 0 0)
        + ∑ t : Fin (n + 1), blockSum (inA W c) (inS W c) (inB W c) (inX W c) ((t.castLE h).cast N_1)
  | 0, h => by
    refine (add_entry _ _).trans ?_
    rw [point_sum W c _ hb, start_entry, part_last, Fin.sum_univ_one]
    rfl
  | n + 1, h => by
    refine (add_entry _ _).trans ?_
    rw [point_sum W c _ hb, running hb n, add_assoc]
    exact congrArg (inF W c (ix2 0 0) + ·) (Fin.sum_univ_castSucc fun t : Fin (n + 2) =>
      blockSum (inA W c) (inS W c) (inB W c) (inX W c) ((t.castLE h).cast N_1)).symm

/-- The running sum after the last point has every block. -/
theorem running_last (hb : Bounded (inA W c) (inS W c)) (t : Fin cfg1.N) (ht : t.val % 25 = 24) :
    sumTo W c t.val t.isLt (ix2 0 0)
      = inF W c (ix2 0 0) + ∑ t : Fin 25, blockSum (inA W c) (inS W c) (inB W c) (inX W c) t := by
  obtain ⟨n, h⟩ := t
  have h25 : n < 25 := N_1 ▸ h
  obtain rfl : n = 24 := by
    have : n % 25 = 24 := ht
    omega
  exact running W c hb 24 h

/-- After the second pass its result is the last layer's bias with every block's sum added. -/
theorem result_array (hb : Bounded (inA W c) (inS W c)) :
    (dat1 W c).arrAt 5 cfg1.N
      = (fun _ => inF W c (ix2 0 0) + ∑ t : Fin 25, blockSum (inA W c) (inS W c) (inB W c) (inX W c) t : FVec Ideal S1x1 .f32) := by
  refine (dat1 W c).arrAt_eq_of_covers 5 _ (by decide +kernel) fun t hf y => ?_
  have h24 := (flush1_5 t).mp hf
  blk_simp
  dsimp only [dat1]
  idx_vars y
  obtain rfl := Subsingleton.elim y0 0
  obtain rfl := Subsingleton.elim y1 0
  exact running_last W c hb t h24

end Cert.Gcn

end
-- ==== Proof.HostReads.lean ====
/- The buffers between the passes, in terms of what the program was launched with. -/
module

public import proofs.«01_k».proof.Proof.ArraysOne
public import proofs.«01_k».proof.Proof.ArraysTwo
public import proofs.«01_k».proof.Proof.Chain

@[expose] public section

set_option maxRecDepth 16384

noncomputable section

namespace Cert.Gcn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- An argument as launched. -/
abbrev arg (r : Ref sig .tc) := m (c, (Proc.devRef .tc r : DevRef τ sig))

/-- The first layer's bias as one row. -/
def biasRow : FVec Ideal S1x128 .f32 := U1 m c (Proc.devRef .tc main_v3)

/-- Its entries are those of the argument. -/
theorem biasRow_apply (h : Fin 128) : biasRow m c (ix2 0 h) = (arg m c main_arg3 : FVec Ideal S128 .f32) (ix1 h) := by
  unfold biasRow U1
  after_results_simp
  pointwise []

/-- The second layer's bias entries are those of the argument. -/
theorem inB_apply (k : Fin 128) : inB (U3 m) c (ix2 0 k) = (arg m c main_arg5 : FVec Ideal S128 .f32) (ix1 k) := by
  have h5 : U2 m c (Proc.devRef .tc main_arg5) = arg m c main_arg5 := (U2_of m c main_arg5 (by decide)).trans (U1_of m c main_arg5 (by decide))
  unfold inB U3
  after_results_simp
  rw [h5]
  pointwise []

/-- The last layer's bias is the argument. -/
theorem inF_apply : inF (U3 m) c (ix2 0 0) = (arg m c main_arg8 : FVec Ideal S1 .f32) (ix1 0) := by
  have h8 : U2 m c (Proc.devRef .tc main_arg8) = arg m c main_arg8 := (U2_of m c main_arg8 (by decide)).trans (U1_of m c main_arg8 (by decide))
  unfold inF U3
  after_results_simp
  rw [h8]
  pointwise []

/-- The row weights' first half is the auxiliary argument. -/
theorem inX_first (t : Fin 25) (x : Fin 400) : inX (U3 m) c (ix3 t 0 x) = (arg m c main_arg6 : FVec Ideal S10000 .f32) (ix1 (rowAt t x)) := by
  have h2 : inX (U3 m) c = U1 m c (Proc.devRef .tc main_v2) := (U3_of m c main_v2 (by decide)).trans (U2_of m c main_v2 (by decide))
  rw [h2]
  unfold U1
  after_results_simp
  pointwise [rowAt]

/-- The row weights' second half is the last layer's weights. -/
theorem inX_second (t : Fin 25) (x : Fin 400) : inX (U3 m) c (ix3 t 1 x) = (arg m c main_arg7 : FVec Ideal S1x10000 .f32) (ix2 0 (rowAt t x)) := by
  have h2 : inX (U3 m) c = U1 m c (Proc.devRef .tc main_v2) := (U3_of m c main_v2 (by decide)).trans (U2_of m c main_v2 (by decide))
  rw [h2]
  unfold U1
  after_results_simp
  pointwise [rowAt]

/-- The features the second pass reads. -/
theorem inS_eq : inS (U3 m) c = featOf (arg m c main_arg0) (arg m c main_arg1) (arg m c main_arg2) (biasRow m c) (arg m c main_arg4) := by
  have h : inS (U3 m) c = (dat0 (U1 m) c).arrAt 5 cfg0.N :=
    (U3_of m c main_v4_0 (by decide)).trans (Pipeline.afterRegion_arr (dat0 (U1 m) c) (U1 m c) launch0.win.arr_inj 5)
  rw [h, feat_array, U1_of m c main_arg0 (by decide), U1_of m c main_arg1 (by decide), U1_of m c main_arg2 (by decide),
    U1_of m c main_arg4 (by decide)]
  rfl

/-- The adjacency's levels the second pass reads. -/
theorem inA_eq : inA (U3 m) c = adjOf (arg m c main_arg1) := by
  have h : inA (U3 m) c = (dat0 (U1 m) c).arrAt 6 cfg0.N :=
    (U3_of m c main_v4_1 (by decide)).trans (Pipeline.afterRegion_arr (dat0 (U1 m) c) (U1 m c) launch0.win.arr_inj 6)
  rw [h, adj_array, U1_of m c main_arg1 (by decide)]

/-- The program's result. -/
theorem result_entry (hb : Bounded (inA (U3 m) c) (inS (U3 m) c)) :
    (U5 m c (Proc.devRef .tc main_v8) : FVec Ideal S1 .f32) (ix1 0)
      = inF (U3 m) c (ix2 0 0)
        + ∑ t : Fin 25, blockSum (inA (U3 m) c) (inS (U3 m) c) (inB (U3 m) c) (inX (U3 m) c) t := by
  have h : U4 m c (Proc.devRef .tc main_v7) = (dat1 (U3 m) c).arrAt 5 cfg1.N :=
    Pipeline.afterRegion_arr (dat1 (U3 m) c) (U3 m c) launch1.win.arr_inj 5
  rw [result_array (U3 m) c hb] at h
  unfold U5
  after_results_simp
  rw [h]
  pointwise []

end Cert.Gcn

end
-- ==== Proof.Result.lean ====
/- The kernel's result is the reference's. -/
module

public import proofs.«01_k».proof.Proof.HostReads
public import proofs.«01_k».proof.Proof.RefEntries

@[expose] public section

set_option maxRecDepth 16384

noncomputable section

namespace Cert.Gcn

open Idealize.ShloMosaic Idealize.ShloMosaic.TcCoe Idealize.SL.Sem

/-- The second layer of the reference, from its features, the adjacency and the bias. -/
def refSecond (s : FVec Ideal Cert.ReferenceIdeal.S10000x128 .f32) (adj : FVec Ideal Cert.ReferenceIdeal.S10000x10000 .f32)
    (b2 : FVec Ideal Cert.ReferenceIdeal.S128 .f32) : FVec Ideal Cert.ReferenceIdeal.S10000x128 .f32 :=
  refLayer (refAdj adj) (refLevels (Host.divf s (overRows (refScale s)))) (refScale s) b2

/-- A level of the features, as the reference computes it. -/
theorem feature_level (s : FVec Ideal Cert.ReferenceIdeal.S10000x128 .f32) (i : Fin 10000) (k : Fin 128) :
    (refLevels (Host.divf s (overRows (refScale s))) (ix2 i k)).toInt
      = quant (s (ix2 i k)) (scaleOf (colMax fun r : Fin 10000 => s (ix2 r k))) := by
  refine (refLevels_apply _ i k).trans ?_
  have h : Host.divf s (overRows (refScale s)) (ix2 i k) = Ideal.div (s (ix2 i k)) (overRows (refScale s) (ix2 i k)) := rfl
  rw [h, overRows_apply, refScale_apply, quant]

/-- A level of the adjacency, as the kernel computes it. -/
theorem adjacency_level (adj : FVec Ideal Cert.KernelIdeal.S10000x10000 .f32) (r i : Fin 10000) :
    (adjOf adj (ix2 r i)).toInt = level (adj (ix2 r i) * Ideal.ofBits .f32 0x499B0780#32) :=
  toInt_fptosi8 _

/-- An entry of the second layer is the same either way. -/
theorem second_entry (s : FVec Ideal Cert.ReferenceIdeal.S10000x128 .f32) (S : FVec Ideal Cert.KernelIdeal.S10000x128 .bf16)
    (adj : FVec Ideal Cert.ReferenceIdeal.S10000x10000 .f32) (b2 : FVec Ideal Cert.ReferenceIdeal.S128 .f32)
    (B : FVec Ideal Cert.KernelIdeal.S1x128 .f32) (hS : ∀ r k, S (ix2 r k) = s (ix2 r k)) (hB : ∀ k, B (ix2 0 k) = b2 (ix1 k))
    (r : Fin 10000) (k : Fin 128) :
    entryOf (adjOf adj) S B r k = refSecond s adj b2 (ix2 r k) := by
  rw [refSecond, refLayer_apply, refScale_apply]
  simp only [feature_level, refAdj_apply, entryOf, scaleAt, hS, hB]
  simp only [adjacency_level]
  exact entry_eq (fun i => level (adj (ix2 r i) * Ideal.ofBits .f32 0x499B0780#32))
    (fun i => quant (s (ix2 i k)) (scaleOf (colMax fun r : Fin 10000 => s (ix2 r k)))) (fun i => s (ix2 i k))
    (colMax fun r : Fin 10000 => s (ix2 r k)) (b2 (ix1 k)) fun _ => rfl

/-- The blocks' sums together with the last bias are the reference's result. -/
theorem total_eq (s : FVec Ideal Cert.ReferenceIdeal.S10000x128 .f32) (S : FVec Ideal Cert.KernelIdeal.S10000x128 .bf16)
    (adj : FVec Ideal Cert.ReferenceIdeal.S10000x10000 .f32) (b2 : FVec Ideal Cert.ReferenceIdeal.S128 .f32)
    (B : FVec Ideal Cert.KernelIdeal.S1x128 .f32) (hS : ∀ r k, S (ix2 r k) = s (ix2 r k)) (hB : ∀ k, B (ix2 0 k) = b2 (ix1 k))
    (X : FVec Ideal Cert.KernelIdeal.S25x2x400 .f32) (aux : FVec Ideal Cert.ReferenceIdeal.S10000 .f32)
    (fw : FVec Ideal Cert.ReferenceIdeal.S1x10000 .f32) (fb : FVec Ideal Cert.ReferenceIdeal.S1 .f32)
    (h0 : ∀ t x, X (ix3 t 0 x) = aux (ix1 (rowAt t x))) (h1 : ∀ t x, X (ix3 t 1 x) = fw (ix2 0 (rowAt t x))) :
    fb (ix1 0) + ∑ t : Fin 25, blockSum (adjOf adj) S B X t = refOut (refSecond s adj b2) aux fw fb (ix1 0) := by
  rw [refOut_apply, add_comm (fb (ix1 0))]
  refine congrArg (· + fb (ix1 0)) ?_
  rw [Fin.sum_univ_tiles 25 400 rfl]
  refine Finset.sum_congr rfl fun t _ => Finset.sum_congr rfl fun x _ => ?_
  simp only [second_entry s S adj b2 B hS hB, h0, h1]
  rfl

/-- The precondition bounds the magnitudes. -/
theorem bounded_of (x : FVec Ideal Cert.ReferenceIdeal.S10000x128 .f32) (adj : FVec Ideal Cert.ReferenceIdeal.S10000x10000 .f32)
    (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32)
    (aux : FVec Ideal Cert.ReferenceIdeal.S10000 .f32) (fw : FVec Ideal Cert.ReferenceIdeal.S1x10000 .f32)
    (fb : FVec Ideal Cert.ReferenceIdeal.S1 .f32)
    (h : Cert.Pre_counted.fn (F := Ideal) x adj W1 b1 W2 b2 aux fw fb = fun _ => 1#1)
    (S : FVec Ideal Cert.KernelIdeal.S10000x128 .bf16) (hS : ∀ r k, S (ix2 r k) = refFeat x adj W1 b1 W2 (ix2 r k)) :
    Bounded (adjOf adj) S := by
  intro r k
  simp only [adjacency_level, scaleAt, hS]
  exact counted_apply x adj W1 b1 W2 b2 aux fw fb h r k

open Cert.KernelIdeal Cert.KernelIdeal.Gen

variable (m : (ℓ : Loc nD τ sig) → Buf (Elt Ideal) ℓ) (c : Dev nD)

/-- The second layer's features of the reference, from the kernel's arguments. -/
def feats : FVec Ideal Cert.ReferenceIdeal.S10000x128 .f32 :=
  refFeat (arg m c main_arg0) (arg m c main_arg1) (arg m c main_arg2) (arg m c main_arg3) (arg m c main_arg4)

/-- The features the second pass reads are the reference's. -/
theorem inS_apply (r : Fin 10000) (k : Fin 128) : inS (U3 m) c (ix2 r k) = feats m c (ix2 r k) := by
  rw [inS_eq, feats, refFeat_apply]
  unfold featOf
  simp only [biasRow_apply]
  rfl

/-- Where the precondition holds, the magnitudes stay within the bound. -/
theorem bounded (h : Cert.Pre_counted.fn (F := Ideal) (arg m c main_arg0) (arg m c main_arg1) (arg m c main_arg2) (arg m c main_arg3)
      (arg m c main_arg4) (arg m c main_arg5) (arg m c main_arg6) (arg m c main_arg7) (arg m c main_arg8) = fun _ => 1#1) :
    Bounded (inA (U3 m) c) (inS (U3 m) c) := by
  rw [inA_eq]
  exact bounded_of _ _ _ _ _ _ _ _ _ h _ (inS_apply m c)

/-- The kernel's result, as the reference's stages of the kernel's arguments. -/
theorem result_eq (h : Cert.Pre_counted.fn (F := Ideal) (arg m c main_arg0) (arg m c main_arg1) (arg m c main_arg2) (arg m c main_arg3)
      (arg m c main_arg4) (arg m c main_arg5) (arg m c main_arg6) (arg m c main_arg7) (arg m c main_arg8) = fun _ => 1#1) :
    U5 m c (Proc.devRef .tc main_v8)
      = refOut (refSecond (feats m c) (arg m c main_arg1) (arg m c main_arg5)) (arg m c main_arg6) (arg m c main_arg7) (arg m c main_arg8) := by
  have e : ∀ y : S1.Idx, y = ix1 0 := fun y => by
    idx_vars y
    rw [Subsingleton.elim y0 0]
  funext y
  rw [e y]
  refine (result_entry m c (bounded m c h)).trans ?_
  rw [inF_apply, inA_eq]
  exact total_eq (feats m c) _ _ _ _ (inS_apply m c) (inB_apply m c) _ _ _ _ (inX_first m c) (inX_second m c)

end Cert.Gcn

end
-- ==== Proof.Claims.lean ====
/- The claims about the idealized kernel and the reference, one by one. -/
module

public import proofs.«01_k».proof.Defs
public import proofs.«01_k».proof.Proof.Result
public import proofs.«01_k».proof.Proof.Whole
public import proofs.«01_k».proof.Proof.Gen.KernelIdeal
public import proofs.«01_k».proof.Proof.Gen.ReferenceIdeal
public import proofs.«01_k».proof.Proof.Gen.ReferenceIdeal.Run
public import proofs.«01_k».proof.Proof.Gen.Pre_counted
public import Idealize.ShloMosaic.Lib.Quiescent
public import Idealize.ShloMosaic.PureOps.IdealRules

@[expose] public section

set_option maxRecDepth 16384

noncomputable section

namespace Cert.Gcn

open Idealize.ShloMosaic Idealize.ShloMosaic.TcCoe Idealize.SL.Sem

/-- The kernel over the extended reals runs to the end, leaves its arguments unchanged and every semaphore counter at zero. -/
theorem frame_ideal : Cert.quiescent_KernelIdeal := fun m ρ _ =>
  (θ_run Cert.KernelIdeal.defs _ _).mono (fun _ h => ⟨fun c => (h.1 c).2, h.2⟩) (run_result (F := Ideal) m ρ)

/-- The reference over the extended reals runs to the end, leaves its arguments unchanged and every semaphore counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants are the reals they stand for. -/
theorem preserves : Cert.preserves_Kernel_KernelIdeal :=
  ⟨IdealRules.named_const.statement Cert.KernelIdeal.κ "inv127" .f32 0x3C010204#32 _ rfl,
    IdealRules.named_const.statement Cert.KernelIdeal.κ "inv_qscale" .f32 0x35535DD3#32 _ rfl⟩

/-- From equal arguments the reference ends with the kernel's result. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : Cert.Pre_counted.fn (F := Ideal) (arg m c Cert.KernelIdeal.main_arg0) (arg m c Cert.KernelIdeal.main_arg1)
      (arg m c Cert.KernelIdeal.main_arg2) (arg m c Cert.KernelIdeal.main_arg3) (arg m c Cert.KernelIdeal.main_arg4)
      (arg m c Cert.KernelIdeal.main_arg5) (arg m c Cert.KernelIdeal.main_arg6) (arg m c Cert.KernelIdeal.main_arg7)
      (arg m c Cert.KernelIdeal.main_arg8) = fun _ => 1#1)
    (h0 : m' ((c.tc : Thread Cert.ReferenceIdeal.nD Cert.ReferenceIdeal.τ).loc Cert.ReferenceIdeal.main_arg0) = arg m c Cert.KernelIdeal.main_arg0)
    (h1 : m' ((c.tc : Thread Cert.ReferenceIdeal.nD Cert.ReferenceIdeal.τ).loc Cert.ReferenceIdeal.main_arg1) = arg m c Cert.KernelIdeal.main_arg1)
    (h2 : m' ((c.tc : Thread Cert.ReferenceIdeal.nD Cert.ReferenceIdeal.τ).loc Cert.ReferenceIdeal.main_arg2) = arg m c Cert.KernelIdeal.main_arg2)
    (h3 : m' ((c.tc : Thread Cert.ReferenceIdeal.nD Cert.ReferenceIdeal.τ).loc Cert.ReferenceIdeal.main_arg3) = arg m c Cert.KernelIdeal.main_arg3)
    (h4 : m' ((c.tc : Thread Cert.ReferenceIdeal.nD Cert.ReferenceIdeal.τ).loc Cert.ReferenceIdeal.main_arg4) = arg m c Cert.KernelIdeal.main_arg4)
    (h5 : m' ((c.tc : Thread Cert.ReferenceIdeal.nD Cert.ReferenceIdeal.τ).loc Cert.ReferenceIdeal.main_arg5) = arg m c Cert.KernelIdeal.main_arg5)
    (h6 : m' ((c.tc : Thread Cert.ReferenceIdeal.nD Cert.ReferenceIdeal.τ).loc Cert.ReferenceIdeal.main_arg6) = arg m c Cert.KernelIdeal.main_arg6)
    (h7 : m' ((c.tc : Thread Cert.ReferenceIdeal.nD Cert.ReferenceIdeal.τ).loc Cert.ReferenceIdeal.main_arg7) = arg m c Cert.KernelIdeal.main_arg7)
    (h8 : m' ((c.tc : Thread Cert.ReferenceIdeal.nD Cert.ReferenceIdeal.τ).loc Cert.ReferenceIdeal.main_arg8) = arg m c Cert.KernelIdeal.main_arg8) :
    Cert.ReferenceIdeal.Value.res_main_v48 m' c = U5 m c (Proc.devRef .tc Cert.KernelIdeal.main_v8) := by
  rw [result_stages, h0, h1, h2, h3, h4, h5, h6, h7, h8]
  exact (result_eq m c h).symm

/-- Kernel and reference compute the same result over the extended reals, where the precondition holds. -/
theorem algebraic : Cert.algebraic_KernelIdeal_ReferenceIdeal_pre_counted := fun m g m' g' hp hm =>
  ⟨fun c => U5 m c (Proc.devRef .tc Cert.KernelIdeal.main_v8),
    (θ_run Cert.KernelIdeal.defs _ _).mono (fun _ h c => h.1 c) (run_result (F := Ideal) m g),
    (θ_run Cert.ReferenceIdeal.defs _ _).mono
      (fun _ h c => ⟨(h c).1.trans (same_result m m' c (hp c) (hm c).1 (hm c).2.1 (hm c).2.2.1 (hm c).2.2.2.1 (hm c).2.2.2.2.1
        (hm c).2.2.2.2.2.1 (hm c).2.2.2.2.2.2.1 (hm c).2.2.2.2.2.2.2.1 (hm c).2.2.2.2.2.2.2.2), (h c).2⟩)
      (Cert.ReferenceIdeal.Value.run (F := Ideal) m' g')⟩

end Cert.Gcn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_counted
public import proofs.«01_k».proof.Proof.Gen.ReferenceIdeal.Run
public import proofs.«01_k».proof.Proof.FrameBits
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything that is claimed: the frames, the named constants, and the equality of the results. -/
theorem claim : Cert.Claim :=
  ⟨Cert.Kernel.Gen.facts, Cert.KernelIdeal.Gen.facts, Cert.ReferenceIdeal.Gen.facts, Cert.Pre_counted.Gen.facts,
    Cert.Gcn.frame_kernel, Cert.Gcn.frame_ideal, fun m g _ => Cert.Gcn.frame_ideal m g trivial,
    Cert.Gcn.frame_reference, fun m g _ => Cert.Gcn.frame_reference m g trivial, Cert.Gcn.preserves, Cert.Gcn.algebraic⟩

end Cert.Proof

end
